-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1024]⟩ ⟨2, ![1024, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v202) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S512x1024 .f32) (main_arg1 : FVec F S1024x4 .f32) (main_arg2 : FVec F S4x1024x2048 .f32) (main_arg3 : FVec F S4x2048x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_finite_ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1024x1024 .f32) (main_arg1 : FVec F S1024x8 .f32) (main_arg2 : FVec F S8x1024x2048 .f32) (main_arg3 : FVec F S8x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1x1024x1024 : Shape := ⟨3, ![1, 1024, 1024]⟩
abbrev S1024x1024 : Shape := ⟨2, ![1024, 1024]⟩
abbrev S512x4 : Shape := ⟨2, ![512, 4]⟩
abbrev S1024x2048 : Shape := ⟨2, ![1024, 2048]⟩
abbrev S2048x1024 : Shape := ⟨2, ![2048, 1024]⟩
abbrev S4 : Shape := ⟨1, ![4]⟩
abbrev S_ : Shape := ⟨0, ![]⟩
abbrev S1 : Shape := ⟨1, ![1]⟩
abbrev S512x8 : Shape := ⟨2, ![512, 8]⟩
abbrev S512 : Shape := ⟨1, ![512]⟩
abbrev S512x1 : Shape := ⟨2, ![512, 1]⟩
abbrev S1024 : Shape := ⟨1, ![1024]⟩
abbrev S1024x1 : Shape := ⟨2, ![1024, 1]⟩

abbrev nBuf : Space → Nat
  | .hbm => 5
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S512x1024, .f32⟩
  | .local _ .vmem, ⟨7, _⟩ => ⟨S1024x1024, .bf16⟩
  | .local _ .vmem, ⟨8, _⟩ => ⟨S1024x4, .f32⟩
  | .local _ .vmem, ⟨9, _⟩ => ⟨S512x4, .f32⟩
  | .local _ .vmem, ⟨10, _⟩ => ⟨S512x4, .f32⟩
  | .local _ .vmem, ⟨11, _⟩ => ⟨S512x4, .f32⟩
  | .local _ .vmem, ⟨12, _⟩ => ⟨S1024x4, .f32⟩
  | .local _ .vmem, ⟨13, _⟩ => ⟨S1024x1024, .f32⟩
  | .local _ .vmem, ⟨14, _⟩ => ⟨S512x1024, .bf16⟩
  | .local _ .vmem, ⟨15, _⟩ => ⟨S512x1024, .bf16⟩
  | .local _ .vmem, ⟨16, _⟩ => ⟨S1024x2048, .bf16⟩
  | .local _ .vmem, ⟨17, _⟩ => ⟨S2048x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev barrier0 : Sem sig := 0

abbrev nD : Nat := 8
abbrev τ : Topo := Topo.v7x

variable {F : FTy → Type} [FloatOps F]

abbrev grid0 : Pipeline.Grid := ⟨2, ![6, 2], ![false, false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v22 : BitVec 32 := Scalar.extui v12
  let c0_i32_10 : BitVec 32 := 0#32
  let v23 : BitVec 1 := Scalar.cmpi .ne v22 c0_i32_10
  v23

def k0_dev1 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v47 : BitVec 32 := Scalar.muli v2 c4_i32_23
  let v48 : BitVec 32 := Scalar.addi c0_i32_24 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v49 : BitVec 32 := Scalar.muli v5 c2_i32_25
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_26 : BitVec 32 := 1#32
  let v51 : BitVec 32 := Scalar.muli v9 c1_i32_26
  let v52 : BitVec 32 := Scalar.addi v50 v51
  v52.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v53 : BitVec 32 := Scalar.muli v2 c4_i32_30
  let v54 : BitVec 32 := Scalar.addi c0_i32_31 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v55 : BitVec 32 := Scalar.muli v5 c2_i32_32
  let v56 : BitVec 32 := Scalar.addi v54 v55
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_33 : BitVec 32 := 1#32
  let v57 : BitVec 32 := Scalar.muli v9 c1_i32_33
  let v58 : BitVec 32 := Scalar.addi v56 v57
  v58.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v66 : BitVec 32 := Scalar.muli v8 c512_i32
  let v67 : Index := Scalar.indexCast v66
  let c0_35 : Index := 0#32
  ![v67.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_37 : BitVec 32 := 512#32
  let v72 : BitVec 32 := Scalar.muli v8 c512_i32_37
  let c0_i32_44 : BitVec 32 := 0#32
  ![v72.toNat, 0]
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v73 : BitVec 32 := Scalar.muli v2 c4_i32_40
  let v74 : BitVec 32 := Scalar.addi c0_i32_41 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v75 : BitVec 32 := Scalar.muli v5 c2_i32_42
  let v76 : BitVec 32 := Scalar.addi v74 v75
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v77 : BitVec 32 := Scalar.muli v9 c1_i32_43
  let v78 : BitVec 32 := Scalar.addi v76 v77
  v78.toNat
def k0_dev4 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v163 : BitVec 32 := Scalar.muli v2 c4_i32_84
  let v164 : BitVec 32 := Scalar.addi c0_i32_85 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v165 : BitVec 32 := Scalar.muli v5 c2_i32_86
  let v166 : BitVec 32 := Scalar.addi v164 v165
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_87 : BitVec 32 := 1#32
  let v167 : BitVec 32 := Scalar.muli v9 c1_i32_87
  let v168 : BitVec 32 := Scalar.addi v166 v167
  v168.toNat
def k0_cond2 (i : grid0.Coords) : BitVec 1 :=
  let arg0 : BitVec 32 := BitVec.ofNat 32 (i 0).val
  let c1_i32_5 : BitVec 32 := 1#32
  let v13 : BitVec 1 := Scalar.cmpi .eq arg0 c1_i32_5
  let arg1 : BitVec 32 := BitVec.ofNat 32 (i 1).val
  let c0_i32_6 : BitVec 32 := 0#32
  let v14 : BitVec 1 := Scalar.cmpi .eq arg1 c0_i32_6
  let v15 : BitVec 1 := Scalar.andi v13 v14
  let v24 : BitVec 32 := Scalar.extui v15
  let c0_i32_11 : BitVec 32 := 0#32
  let v25 : BitVec 1 := Scalar.cmpi .ne v24 c0_i32_11
  v25

def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v46 : BitVec 32 := Scalar.muli v8 c512_i32
  let c0_i32_26 : BitVec 32 := 0#32
  ![v46.toNat, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_46 : BitVec 32 := 512#32
  let v73 : BitVec 32 := Scalar.muli v8 c512_i32_46
  let v74 : Index := Scalar.indexCast v73
  let c0_47 : Index := 0#32
  ![v74.toNat, 0]
def k0_off5 (d0 : Dev nD) : Fin 2 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_50 : BitVec 32 := 512#32
  let v79 : BitVec 32 := Scalar.muli v9 c512_i32_50
  let v80 : Index := Scalar.indexCast v79
  let c0_51 : Index := 0#32
  ![v80.toNat, 0]
def k0_cond3 (i : grid0.Coords) : BitVec 1 :=
  let arg0 : BitVec 32 := BitVec.ofNat 32 (i 0).val
  let c0_i32_12 : BitVec 32 := 0#32
  let v27 : BitVec 1 := Scalar.cmpi .eq arg0 c0_i32_12
  let c4_i32_13 : BitVec 32 := 4#32
  let v28 : BitVec 1 := Scalar.cmpi .eq arg0 c4_i32_13
  let v29 : BitVec 1 := Scalar.ori v27 v28
  let v30 : BitVec 32 := Scalar.extui v29
  let c0_i32_14 : BitVec 32 := 0#32
  let v31 : BitVec 1 := Scalar.cmpi .ne v30 c0_i32_14
  v31

def k0_cond4 (i : grid0.Coords) : BitVec 1 :=
  let arg0 : BitVec 32 := BitVec.ofNat 32 (i 0).val
  let c0_i32_22 : BitVec 32 := 0#32
  let v46 : BitVec 1 := Scalar.cmpi .eq arg0 c0_i32_22
  let v47 : BitVec 32 := Scalar.extui v46
  let c0_i32_23 : BitVec 32 := 0#32
  let v48 : BitVec 1 := Scalar.cmpi .ne v47 c0_i32_23
  v48

def k0_off6 (i : grid0.Coords) : Fin 2 → Nat :=
  let c0_43 : Index := 0#32
  let arg1 : BitVec 32 := BitVec.ofNat 32 (i 1).val
  let c1024_i32_42 : BitVec 32 := 1024#32
  let v86 : BitVec 32 := Scalar.muli arg1 c1024_i32_42
  let v87 : Index := Scalar.indexCast v86
  ![0, v87.toNat]
def k0_off7 (i : grid0.Coords) : Fin 2 → Nat :=
  let arg1 : BitVec 32 := BitVec.ofNat 32 (i 1).val
  let c1024_i32_47 : BitVec 32 := 1024#32
  let v94 : BitVec 32 := Scalar.muli arg1 c1024_i32_47
  let v95 : Index := Scalar.indexCast v94
  let c0_48 : Index := 0#32
  ![v95.toNat, 0]
def k0_off8 (i : grid0.Coords) (d0 : Dev nD) : Fin 2 → Nat :=
  let arg0 : BitVec 32 := BitVec.ofNat 32 (i 0).val
  let c0_i32_24 : BitVec 32 := 0#32
  let v49 : BitVec 1 := Scalar.cmpi .eq arg0 c0_i32_24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3 : BitVec 32 := 1#32
  let v9 : BitVec 32 := Scalar.subi c1_i32_3 v8
  let v50 : BitVec 32 := Scalar.select v49 v8 v9
  let c512_i32 : BitVec 32 := 512#32
  let v51 : BitVec 32 := Scalar.muli v50 c512_i32
  let v52 : Index := Scalar.indexCast v51
  let c0 : Index := 0#32
  ![v52.toNat, 0]
def k0_off9 (i : grid0.Coords) : Fin 2 → Nat :=
  let c0_25 : Index := 0#32
  let arg1 : BitVec 32 := BitVec.ofNat 32 (i 1).val
  let c1024_i32 : BitVec 32 := 1024#32
  let v54 : BitVec 32 := Scalar.muli arg1 c1024_i32
  let v55 : Index := Scalar.indexCast v54
  ![0, v55.toNat]
def k0_off10 (i : grid0.Coords) : Fin 2 → Nat :=
  let arg1 : BitVec 32 := BitVec.ofNat 32 (i 1).val
  let c1024_i32_27 : BitVec 32 := 1024#32
  let v61 : BitVec 32 := Scalar.muli arg1 c1024_i32_27
  let v62 : Index := Scalar.indexCast v61
  let c0_28 : Index := 0#32
  ![v62.toNat, 0]
def k0_cond5 (i : grid0.Coords) : BitVec 1 :=
  let arg0 : BitVec 32 := BitVec.ofNat 32 (i 0).val
  let c3_i32 : BitVec 32 := 3#32
  let v32 : BitVec 1 := Scalar.cmpi .eq arg0 c3_i32
  let c5_i32_15 : BitVec 32 := 5#32
  let v33 : BitVec 1 := Scalar.cmpi .eq arg0 c5_i32_15
  let v34 : BitVec 1 := Scalar.ori v32 v33
  let v35 : BitVec 32 := Scalar.extui v34
  let c0_i32_16 : BitVec 32 := 0#32
  let v36 : BitVec 1 := Scalar.cmpi .ne v35 c0_i32_16
  v36

def k0_off11 (i : grid0.Coords) (d0 : Dev nD) : Fin 2 → Nat :=
  let arg0 : BitVec 32 := BitVec.ofNat 32 (i 0).val
  let c5_i32_22 : BitVec 32 := 5#32
  let v46 : BitVec 1 := Scalar.cmpi .eq arg0 c5_i32_22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3 : BitVec 32 := 1#32
  let v9 : BitVec 32 := Scalar.subi c1_i32_3 v8
  let v47 : BitVec 32 := Scalar.select v46 v8 v9
  let c512_i32 : BitVec 32 := 512#32
  let v48 : BitVec 32 := Scalar.muli v47 c512_i32
  let v49 : Index := Scalar.indexCast v48
  let c0 : Index := 0#32
  ![v49.toNat, 0]
def k0_cond7 (i : grid0.Coords) : BitVec 1 :=
  let arg0 : BitVec 32 := BitVec.ofNat 32 (i 0).val
  let c4_i32_7 : BitVec 32 := 4#32
  let v16 : BitVec 1 := Scalar.cmpi .eq arg0 c4_i32_7
  let arg1 : BitVec 32 := BitVec.ofNat 32 (i 1).val
  let c1_i32_8 : BitVec 32 := 1#32
  let v17 : BitVec 1 := Scalar.cmpi .eq arg1 c1_i32_8
  let v18 : BitVec 1 := Scalar.andi v16 v17
  let v42 : BitVec 32 := Scalar.extui v18
  let c0_i32_20 : BitVec 32 := 0#32
  let v43 : BitVec 1 := Scalar.cmpi .ne v42 c0_i32_20
  v43

def k0_off12 (d0 : Dev nD) : Fin 2 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v46 : BitVec 32 := Scalar.muli v9 c512_i32
  let v47 : Index := Scalar.indexCast v46
  let c0 : Index := 0#32
  ![v47.toNat, 0]
def k0_dev5 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v53 : BitVec 32 := Scalar.muli v2 c4_i32_26
  let v54 : BitVec 32 := Scalar.addi c0_i32_27 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v55 : BitVec 32 := Scalar.muli v5 c2_i32_28
  let v56 : BitVec 32 := Scalar.addi v54 v55
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v57 : BitVec 32 := Scalar.muli v9 c1_i32_29
  let v58 : BitVec 32 := Scalar.addi v56 v57
  v58.toNat
def k0_cond8 (i : grid0.Coords) : BitVec 1 :=
  let arg0 : BitVec 32 := BitVec.ofNat 32 (i 0).val
  let c5_i32 : BitVec 32 := 5#32
  let v19 : BitVec 1 := Scalar.cmpi .eq arg0 c5_i32
  let arg1 : BitVec 32 := BitVec.ofNat 32 (i 1).val
  let c1_i32_9 : BitVec 32 := 1#32
  let v20 : BitVec 1 := Scalar.cmpi .eq arg1 c1_i32_9
  let v21 : BitVec 1 := Scalar.andi v19 v20
  let v44 : BitVec 32 := Scalar.extui v21
  let c0_i32_21 : BitVec 32 := 0#32
  let v45 : BitVec 1 := Scalar.cmpi .ne v44 c0_i32_21
  v45

def k0_off13 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v56 : BitVec 32 := Scalar.muli v8 c512_i32
  let v57 : Index := Scalar.indexCast v56
  let c0 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c0_i32 : BitVec 32 := 0#32
  let v1 : BitVec 1 := Scalar.cmpi .eq arg0 c0_i32
  let c0_i32_0 : BitVec 32 := 0#32
  let v2 : BitVec 32 := Scalar.select v1 c0_i32_0 arg0
  let c3_i32_1 : BitVec 32 := 3#32
  let v3 : BitVec 32 := Scalar.select v0 v2 c3_i32_1
  let c4_i32 : BitVec 32 := 4#32
  let v4 : BitVec 1 := Scalar.cmpi .eq arg0 c4_i32
  let c1_i32 : BitVec 32 := 1#32
  let v5 : BitVec 32 := Scalar.select v4 c1_i32 arg1
  let c0_i32_2 : BitVec 32 := 0#32
  let c0_i32_3 : BitVec 32 := 0#32
  ![v3.toNat, c0_i32_2.toNat, v5.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c0_i32 : BitVec 32 := 0#32
  let v1 : BitVec 1 := Scalar.cmpi .eq arg0 c0_i32
  let c0_i32_0 : BitVec 32 := 0#32
  let v2 : BitVec 32 := Scalar.select v1 c0_i32_0 arg0
  let c3_i32_1 : BitVec 32 := 3#32
  let v3 : BitVec 32 := Scalar.select v0 v2 c3_i32_1
  let c4_i32 : BitVec 32 := 4#32
  let v4 : BitVec 1 := Scalar.cmpi .eq arg0 c4_i32
  let c1_i32 : BitVec 32 := 1#32
  let v5 : BitVec 32 := Scalar.select v4 c1_i32 arg1
  let c0_i32_2 : BitVec 32 := 0#32
  let c0_i32_3 : BitVec 32 := 0#32
  ![v3.toNat, v5.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 300
  | .vmem => 0
  | .smem => 0
  | _ => 0

abbrev hbmTy0_0 (i : Nat) : BufTy := match i % 128 with
  | 0 => ⟨S1024x1024, .f32⟩
  | 1 => ⟨S1024x8, .f32⟩
  | 2 => ⟨S8x1024x2048, .f32⟩
  | 3 => ⟨S8x2048x1024, .f32⟩
  | 4 => ⟨S1024x8, .f32⟩
  | 5 => ⟨S1024x2, .f32⟩
  | 6 => ⟨S1024x2, .i32⟩
  | 7 => ⟨S_, .f32⟩
  | 8 => ⟨S1024, .f32⟩
  | 9 => ⟨S1024x1, .f32⟩
  | 10 => ⟨S1024x2, .f32⟩
  | 11 => ⟨S1024x2, .f32⟩
  | 12 => ⟨S1024x2, .f32⟩
  | 13 => ⟨S_, .f32⟩
  | 14 => ⟨S1024, .f32⟩
  | 15 => ⟨S1024x1, .f32⟩
  | 16 => ⟨S1024x2, .f32⟩
  | 17 => ⟨S1024x2, .f32⟩
  | 18 => ⟨S_, .f32⟩
  | 19 => ⟨S1024x1024, .f32⟩
  | 20 => ⟨S1x1024x2048, .f32⟩
  | 21 => ⟨S1024x2048, .f32⟩
  | 22 => ⟨S1024x2048, .f32⟩
  | 23 => ⟨S_, .f32⟩
  | 24 => ⟨S1024x2048, .f32⟩
  | 25 => ⟨S1024x2048, .f32⟩
  | 26 => ⟨S1x2048x1024, .f32⟩
  | 27 => ⟨S2048x1024, .f32⟩
  | 28 => ⟨S1024x1024, .f32⟩
  | 29 => ⟨S1024x1, .i32⟩
  | 30 => ⟨S_, .i32⟩
  | 31 => ⟨S1024x1, .i32⟩
  | 32 => ⟨S1024x1, .i1⟩
  | 33 => ⟨S1024x1, .f32⟩
  | 34 => ⟨S1024x1024, .f32⟩
  | 35 => ⟨S1024x1024, .f32⟩
  | 36 => ⟨S_, .f32⟩
  | 37 => ⟨S_, .f32⟩
  | 38 => ⟨S1024x1024, .i1⟩
  | 39 => ⟨S1024x1024, .f32⟩
  | 40 => ⟨S1024x1024, .f32⟩
  | 41 => ⟨S1024x1024, .f32⟩
  | 42 => ⟨S1024x1, .i32⟩
  | 43 => ⟨S_, .i32⟩
  | 44 => ⟨S1024x1, .i32⟩
  | 45 => ⟨S1024x1, .i1⟩
  | 46 => ⟨S1024x1, .f32⟩
  | 47 => ⟨S1024x1024, .f32⟩
  | 48 => ⟨S1024x1024, .f32⟩
  | 49 => ⟨S_, .f32⟩
  | 50 => ⟨S_, .f32⟩
  | 51 => ⟨S1024x1024, .i1⟩
  | 52 => ⟨S1024x1024, .f32⟩
  | 53 => ⟨S1024x1024, .f32⟩
  | 54 => ⟨S1024x1024, .f32⟩
  | 55 => ⟨S1x1024x2048, .f32⟩
  | 56 => ⟨S1024x2048, .f32⟩
  | 57 => ⟨S1024x2048, .f32⟩
  | 58 => ⟨S_, .f32⟩
  | 59 => ⟨S1024x2048, .f32⟩
  | 60 => ⟨S1024x2048, .f32⟩
  | 61 => ⟨S1x2048x1024, .f32⟩
  | 62 => ⟨S2048x1024, .f32⟩
  | 63 => ⟨S1024x1024, .f32⟩
  | 64 => ⟨S1024x1, .i32⟩
  | 65 => ⟨S_, .i32⟩
  | 66 => ⟨S1024x1, .i32⟩
  | 67 => ⟨S1024x1, .i1⟩
  | 68 => ⟨S1024x1, .f32⟩
  | 69 => ⟨S1024x1024, .f32⟩
  | 70 => ⟨S1024x1024, .f32⟩
  | 71 => ⟨S_, .f32⟩
  | 72 => ⟨S_, .f32⟩
  | 73 => ⟨S1024x1024, .i1⟩
  | 74 => ⟨S1024x1024, .f32⟩
  | 75 => ⟨S1024x1024, .f32⟩
  | 76 => ⟨S1024x1024, .f32⟩
  | 77 => ⟨S1024x1, .i32⟩
  | 78 => ⟨S_, .i32⟩
  | 79 => ⟨S1024x1, .i32⟩
  | 80 => ⟨S1024x1, .i1⟩
  | 81 => ⟨S1024x1, .f32⟩
  | 82 => ⟨S1024x1024, .f32⟩
  | 83 => ⟨S1024x1024, .f32⟩
  | 84 => ⟨S_, .f32⟩
  | 85 => ⟨S_, .f32⟩
  | 86 => ⟨S1024x1024, .i1⟩
  | 87 => ⟨S1024x1024, .f32⟩
  | 88 => ⟨S1024x1024, .f32⟩
  | 89 => ⟨S1024x1024, .f32⟩
  | 90 => ⟨S1x1024x2048, .f32⟩
  | 91 => ⟨S1024x2048, .f32⟩
  | 92 => ⟨S1024x2048, .f32⟩
  | 93 => ⟨S_, .f32⟩
  | 94 => ⟨S1024x2048, .f32⟩
  | 95 => ⟨S1024x2048, .f32⟩
  | 96 => ⟨S1x2048x1024, .f32⟩
  | 97 => ⟨S2048x1024, .f32⟩
  | 98 => ⟨S1024x1024, .f32⟩
  | 99 => ⟨S1024x1, .i32⟩
  | 100 => ⟨S_, .i32⟩
  | 101 => ⟨S1024x1, .i32⟩
  | 102 => ⟨S1024x1, .i1⟩
  | 103 => ⟨S1024x1, .f32⟩
  | 104 => ⟨S1024x1024, .f32⟩
  | 105 => ⟨S1024x1024, .f32⟩
  | 106 => ⟨S_, .f32⟩
  | 107 => ⟨S_, .f32⟩
  | 108 => ⟨S1024x1024, .i1⟩
  | 109 => ⟨S1024x1024, .f32⟩
  | 110 => ⟨S1024x1024, .f32⟩
  | 111 => ⟨S1024x1024, .f32⟩
  | 112 => ⟨S1024x1, .i32⟩
  | 113 => ⟨S_, .i32⟩
  | 114 => ⟨S1024x1, .i32⟩
  | 115 => ⟨S1024x1, .i1⟩
  | 116 => ⟨S1024x1, .f32⟩
  | 117 => ⟨S1024x1024, .f32⟩
  | 118 => ⟨S1024x1024, .f32⟩
  | 119 => ⟨S_, .f32⟩
  | 120 => ⟨S_, .f32⟩
  | 121 => ⟨S1024x1024, .i1⟩
  | 122 => ⟨S1024x1024, .f32⟩
  | 123 => ⟨S1024x1024, .f32⟩
  | 124 => ⟨S1024x1024, .f32⟩
  | 125 => ⟨S1x1024x2048, .f32⟩
  | 126 => ⟨S1024x2048, .f32⟩
  | 127 => ⟨S1024x2048, .f32⟩
  | _ => ⟨S1024x1024, .f32⟩

abbrev hbmTy0_1 (i : Nat) : BufTy := match i % 128 with
  | 0 => ⟨S_, .f32⟩
  | 1 => ⟨S1024x2048, .f32⟩
  | 2 => ⟨S1024x2048, .f32⟩
  | 3 => ⟨S1x2048x1024, .f32⟩
  | 4 => ⟨S2048x1024, .f32⟩
  | 5 => ⟨S1024x1024, .f32⟩
  | 6 => ⟨S1024x1, .i32⟩
  | 7 => ⟨S_, .i32⟩
  | 8 => ⟨S1024x1, .i32⟩
  | 9 => ⟨S1024x1, .i1⟩
  | 10 => ⟨S1024x1, .f32⟩
  | 11 => ⟨S1024x1024, .f32⟩
  | 12 => ⟨S1024x1024, .f32⟩
  | 13 => ⟨S_, .f32⟩
  | 14 => ⟨S_, .f32⟩
  | 15 => ⟨S1024x1024, .i1⟩
  | 16 => ⟨S1024x1024, .f32⟩
  | 17 => ⟨S1024x1024, .f32⟩
  | 18 => ⟨S1024x1024, .f32⟩
  | 19 => ⟨S1024x1, .i32⟩
  | 20 => ⟨S_, .i32⟩
  | 21 => ⟨S1024x1, .i32⟩
  | 22 => ⟨S1024x1, .i1⟩
  | 23 => ⟨S1024x1, .f32⟩
  | 24 => ⟨S1024x1024, .f32⟩
  | 25 => ⟨S1024x1024, .f32⟩
  | 26 => ⟨S_, .f32⟩
  | 27 => ⟨S_, .f32⟩
  | 28 => ⟨S1024x1024, .i1⟩
  | 29 => ⟨S1024x1024, .f32⟩
  | 30 => ⟨S1024x1024, .f32⟩
  | 31 => ⟨S1024x1024, .f32⟩
  | 32 => ⟨S1x1024x2048, .f32⟩
  | 33 => ⟨S1024x2048, .f32⟩
  | 34 => ⟨S1024x2048, .f32⟩
  | 35 => ⟨S_, .f32⟩
  | 36 => ⟨S1024x2048, .f32⟩
  | 37 => ⟨S1024x2048, .f32⟩
  | 38 => ⟨S1x2048x1024, .f32⟩
  | 39 => ⟨S2048x1024, .f32⟩
  | 40 => ⟨S1024x1024, .f32⟩
  | 41 => ⟨S1024x1, .i32⟩
  | 42 => ⟨S_, .i32⟩
  | 43 => ⟨S1024x1, .i32⟩
  | 44 => ⟨S1024x1, .i1⟩
  | 45 => ⟨S1024x1, .f32⟩
  | 46 => ⟨S1024x1024, .f32⟩
  | 47 => ⟨S1024x1024, .f32⟩
  | 48 => ⟨S_, .f32⟩
  | 49 => ⟨S_, .f32⟩
  | 50 => ⟨S1024x1024, .i1⟩
  | 51 => ⟨S1024x1024, .f32⟩
  | 52 => ⟨S1024x1024, .f32⟩
  | 53 => ⟨S1024x1024, .f32⟩
  | 54 => ⟨S1024x1, .i32⟩
  | 55 => ⟨S_, .i32⟩
  | 56 => ⟨S1024x1, .i32⟩
  | 57 => ⟨S1024x1, .i1⟩
  | 58 => ⟨S1024x1, .f32⟩
  | 59 => ⟨S1024x1024, .f32⟩
  | 60 => ⟨S1024x1024, .f32⟩
  | 61 => ⟨S_, .f32⟩
  | 62 => ⟨S_, .f32⟩
  | 63 => ⟨S1024x1024, .i1⟩
  | 64 => ⟨S1024x1024, .f32⟩
  | 65 => ⟨S1024x1024, .f32⟩
  | 66 => ⟨S1024x1024, .f32⟩
  | 67 => ⟨S1x1024x2048, .f32⟩
  | 68 => ⟨S1024x2048, .f32⟩
  | 69 => ⟨S1024x2048, .f32⟩
  | 70 => ⟨S_, .f32⟩
  | 71 => ⟨S1024x2048, .f32⟩
  | 72 => ⟨S1024x2048, .f32⟩
  | 73 => ⟨S1x2048x1024, .f32⟩
  | 74 => ⟨S2048x1024, .f32⟩
  | 75 => ⟨S1024x1024, .f32⟩
  | 76 => ⟨S1024x1, .i32⟩
  | 77 => ⟨S_, .i32⟩
  | 78 => ⟨S1024x1, .i32⟩
  | 79 => ⟨S1024x1, .i1⟩
  | 80 => ⟨S1024x1, .f32⟩
  | 81 => ⟨S1024x1024, .f32⟩
  | 82 => ⟨S1024x1024, .f32⟩
  | 83 => ⟨S_, .f32⟩
  | 84 => ⟨S_, .f32⟩
  | 85 => ⟨S1024x1024, .i1⟩
  | 86 => ⟨S1024x1024, .f32⟩
  | 87 => ⟨S1024x1024, .f32⟩
  | 88 => ⟨S1024x1024, .f32⟩
  | 89 => ⟨S1024x1, .i32⟩
  | 90 => ⟨S_, .i32⟩
  | 91 => ⟨S1024x1, .i32⟩
  | 92 => ⟨S1024x1, .i1⟩
  | 93 => ⟨S1024x1, .f32⟩
  | 94 => ⟨S1024x1024, .f32⟩
  | 95 => ⟨S1024x1024, .f32⟩
  | 96 => ⟨S_, .f32⟩
  | 97 => ⟨S_, .f32⟩
  | 98 => ⟨S1024x1024, .i1⟩
  | 99 => ⟨S1024x1024, .f32⟩
  | 100 => ⟨S1024x1024, .f32⟩
  | 101 => ⟨S1024x1024, .f32⟩
  | 102 => ⟨S1x1024x2048, .f32⟩
  | 103 => ⟨S1024x2048, .f32⟩
  | 104 => ⟨S1024x2048, .f32⟩
  | 105 => ⟨S_, .f32⟩
  | 106 => ⟨S1024x2048, .f32⟩
  | 107 => ⟨S1024x2048, .f32⟩
  | 108 => ⟨S1x2048x1024, .f32⟩
  | 109 => ⟨S2048x1024, .f32⟩
  | 110 => ⟨S1024x1024, .f32⟩
  | 111 => ⟨S1024x1, .i32⟩
  | 112 => ⟨S_, .i32⟩
  | 113 => ⟨S1024x1, .i32⟩
  | 114 => ⟨S1024x1, .i1⟩
  | 115 => ⟨S1024x1, .f32⟩
  | 116 => ⟨S1024x1024, .f32⟩
  | 117 => ⟨S1024x1024, .f32⟩
  | 118 => ⟨S_, .f32⟩
  | 119 => ⟨S_, .f32⟩
  | 120 => ⟨S1024x1024, .i1⟩
  | 121 => ⟨S1024x1024, .f32⟩
  | 122 => ⟨S1024x1024, .f32⟩
  | 123 => ⟨S1024x1024, .f32⟩
  | 124 => ⟨S1024x1, .i32⟩
  | 125 => ⟨S_, .i32⟩
  | 126 => ⟨S1024x1, .i32⟩
  | 127 => ⟨S1024x1, .i1⟩
  | _ => ⟨S1024x1024, .f32⟩

abbrev hbmTy0_2 (i : Nat) : BufTy := match i % 128 with
  | 0 => ⟨S1024x1, .f32⟩
  | 1 => ⟨S1024x1024, .f32⟩
  | 2 => ⟨S1024x1024, .f32⟩
  | 3 => ⟨S_, .f32⟩
  | 4 => ⟨S_, .f32⟩
  | 5 => ⟨S1024x1024, .i1⟩
  | 6 => ⟨S1024x1024, .f32⟩
  | 7 => ⟨S1024x1024, .f32⟩
  | 8 => ⟨S1024x1024, .f32⟩
  | 9 => ⟨S1x1024x2048, .f32⟩
  | 10 => ⟨S1024x2048, .f32⟩
  | 11 => ⟨S1024x2048, .f32⟩
  | 12 => ⟨S_, .f32⟩
  | 13 => ⟨S1024x2048, .f32⟩
  | 14 => ⟨S1024x2048, .f32⟩
  | 15 => ⟨S1x2048x1024, .f32⟩
  | 16 => ⟨S2048x1024, .f32⟩
  | 17 => ⟨S1024x1024, .f32⟩
  | 18 => ⟨S1024x1, .i32⟩
  | 19 => ⟨S_, .i32⟩
  | 20 => ⟨S1024x1, .i32⟩
  | 21 => ⟨S1024x1, .i1⟩
  | 22 => ⟨S1024x1, .f32⟩
  | 23 => ⟨S1024x1024, .f32⟩
  | 24 => ⟨S1024x1024, .f32⟩
  | 25 => ⟨S_, .f32⟩
  | 26 => ⟨S_, .f32⟩
  | 27 => ⟨S1024x1024, .i1⟩
  | 28 => ⟨S1024x1024, .f32⟩
  | 29 => ⟨S1024x1024, .f32⟩
  | 30 => ⟨S1024x1024, .f32⟩
  | 31 => ⟨S1024x1, .i32⟩
  | 32 => ⟨S_, .i32⟩
  | 33 => ⟨S1024x1, .i32⟩
  | 34 => ⟨S1024x1, .i1⟩
  | 35 => ⟨S1024x1, .f32⟩
  | 36 => ⟨S1024x1024, .f32⟩
  | 37 => ⟨S1024x1024, .f32⟩
  | 38 => ⟨S_, .f32⟩
  | 39 => ⟨S_, .f32⟩
  | 40 => ⟨S1024x1024, .i1⟩
  | 41 => ⟨S1024x1024, .f32⟩
  | 42 => ⟨S1024x1024, .f32⟩
  | 43 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_19 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_20 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_21 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_22 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_23 : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_24 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_25 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_26 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_c_27 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_28 : Ref sig .tc := ⟨.hbm, 211, rfl⟩
abbrev main_call10_v0 : Ref sig .tc := ⟨.hbm, 212, rfl⟩
abbrev main_call10_v1 : Ref sig .tc := ⟨.hbm, 213, rfl⟩
abbrev main_call10_v2 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_c_29 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_30 : Ref sig .tc := ⟨.hbm, 224, rfl⟩
abbrev main_call11_v0 : Ref sig .tc := ⟨.hbm, 225, rfl⟩
abbrev main_call11_v1 : Ref sig .tc := ⟨.hbm, 226, rfl⟩
abbrev main_call11_v2 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_31 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_c_32 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_33 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_c_34 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_35 : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_36 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_c_37 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_cst_38 : Ref sig .tc := ⟨.hbm, 281, rfl⟩
abbrev main_call14_v0 : Ref sig .tc := ⟨.hbm, 282, rfl⟩
abbrev main_call14_v1 : Ref sig .tc := ⟨.hbm, 283, rfl⟩
abbrev main_call14_v2 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_c_39 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_cst_40 : Ref sig .tc := ⟨.hbm, 294, rfl⟩
abbrev main_call15_v0 : Ref sig .tc := ⟨.hbm, 295, rfl⟩
abbrev main_call15_v1 : Ref sig .tc := ⟨.hbm, 296, rfl⟩
abbrev main_call15_v2 : Ref sig .tc := ⟨.hbm, 297, rfl⟩
abbrev main_v201 : Ref sig .tc := ⟨.hbm, 298, rfl⟩
abbrev main_v202 : Ref sig .tc := ⟨.hbm, 299, rfl⟩

abbrev nD : Nat := 1
abbrev τ : Topo := Topo.v7x

variable {F : FTy → Type} [FloatOps F]
-- ==== Proof.Access.lean ====
/-
# Loads and stores at owned memrefs

A load or a store through a unit-stride rectangle of a memref of which a core owns what it reads
(`owns`): the load hands the window of the owned values, the store leaves the values with the payload
put over the window. A slice owned on its own is loaded and stored through its parent's rectangle.
-/
module

public import Idealize.ShloMosaic.Lib.VecWindow
public import Idealize.ShloMosaic.Lib.MemrefSat
public import Idealize.ShloMosaic.Lib.Rounds
public import Idealize.ShloMosaic.Lib.Tactic

@[expose] public section

noncomputable section

namespace Cert.MoE

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) {E : Set Name}
variable {s : Shape} {e : EltTy} {α : Type} {Q : α → sProp (MT nD τ sig Ix Val Name U Lvl)}

/-- A load through a unit-stride rectangle of an owned memref reads the window of what is owned there. -/
theorem ld_win {cs : CoreSpace} (m : Memref sig c.2.kind cs s e) (q : PosShare TreeShare) (X : s.Idx → Val e)
    {off size : Fin s.rank → ℕ} {inb : ∀ a, off a + size a ≤ s.size a} (off' : Fin s.rank → ℕ) (ho : off = off')
    (inb' : ∀ a, off' a + size a ≤ s.size a)
    {hl : m.view.LoadsAt (Rect.unit (s := s) off size inb).toLoadRect}
    {k : ((Rect.unit (s := s) off size inb).toLoadRect.shape.Idx → Val e) → Prog (TpuEff nD τ sig Val Λ c.2) α} :
    (owns c m q X : sProp 𝕄)
      ⊢ iprop((owns c m q X -∗ wp frame (wpE defs 𝒱 c bd) E (k (VecWindow.window X off size inb)) Q)
        -∗ wp frame (wpE defs 𝒱 c bd) E (.op (.load m (Rect.unit (s := s) off size inb).toLoadRect hl) k) Q) := by
  subst ho
  iintro Ho Hk
  ihave Ho' := (show (owns c m q X : sProp 𝕄) ⊢ iprop(∃ g, ⌜m.view.read Val g = X⌝ ∗ m.view.loc c ↦[m.view.set]{q} g) from .rfl) $$ Ho
  icases Ho' with ⟨%f, %hf, H⟩
  iapply (wp_load 𝒱 c bd E (m := m) (View.setOn_subset_set _ _)) $$ H
  iintro H
  have hw : m.view.readAt Val (Rect.unit (s := s) off size inb).toLoadRect f = VecWindow.window X off size inb := by
    rw [View.readAt_unit m.view f inb rfl inb, hf]
  rw [hw]
  iapply Hk
  rw [← hf]
  iapply (owns_intro c m q f); iexact H

/-- `ld_win`, the window named by the offsets `off'`. -/
theorem ld_at {cs : CoreSpace} (m : Memref sig c.2.kind cs s e) (q : PosShare TreeShare) (X : s.Idx → Val e)
    {off size : Fin s.rank → ℕ} {inb : ∀ a, off a + size a ≤ s.size a} (off' : Fin s.rank → ℕ) (ho : off = off')
    (inb' : ∀ a, off' a + size a ≤ s.size a)
    {hl : m.view.LoadsAt (Rect.unit (s := s) off size inb).toLoadRect}
    {k : (((a : Fin s.rank) → Fin (size a)) → Val e) → Prog (TpuEff nD τ sig Val Λ c.2) α} :
    (owns c m q X : sProp 𝕄)
      ⊢ iprop((owns c m q X -∗ wp frame (wpE defs 𝒱 c bd) E (k (VecWindow.window X off' size inb')) Q)
        -∗ wp frame (wpE defs 𝒱 c bd) E (.op (.load m (Rect.unit (s := s) off size inb).toLoadRect hl) k) Q) := by
  subst ho
  exact ld_win 𝒱 c bd m q X off rfl inb'

/-- A store through a unit-stride rectangle of a memref owned whole leaves the payload put over the window. -/
theorem st_win {cs : CoreSpace} (m : Memref sig c.2.kind cs s e) (X : s.Idx → Val e)
    {off size : Fin s.rank → ℕ} {inb : ∀ a, off a + size a ≤ s.size a} (off' : Fin s.rank → ℕ) (ho : off = off')
    {w : (Rect.unit (s := s) off size inb).shape.Idx → Val e} {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig Val Λ c.2) α} :
    (owns c m fullShare X : sProp 𝕄)
      ⊢ iprop((owns c m fullShare (VecWindow.put X off' size w) -∗ wp frame (wpE defs 𝒱 c bd) E (k ⟨⟩) Q)
        -∗ wp frame (wpE defs 𝒱 c bd) E (.op (.store m (Rect.unit (s := s) off size inb) w Finset.univ hx hm) k) Q) := by
  subst ho
  iintro Ho Hk
  ihave Ho' := (show (owns c m fullShare X : sProp 𝕄) ⊢ iprop(∃ g, ⌜m.view.read Val g = X⌝ ∗ m.view.loc c ↦[m.view.set]{fullShare} g) from .rfl) $$ Ho
  icases Ho' with ⟨%f, %hf, H⟩
  iapply (wp_store 𝒱 c bd E (m := m) (r := Rect.unit (s := s) off size inb) (Mk := Finset.univ)
    (S := m.view.set) (View.set_slice_subset m.view _)) $$ H
  iintro H
  iapply Hk
  have hw : m.view.read Val ((m.access (Rect.unit (s := s) off size inb)).write Val f w Finset.univ) = VecWindow.put X off size w := by
    refine (View.read_writes_cons_put m.view f inb w [] rfl).trans ?_
    rw [View.writes_nil, hf]
  rw [← hw]
  iapply (owns_intro c m fullShare _); iexact H

/-- A load through the rectangle of an owned slice of its memref reads what is owned. -/
theorem ld_slice {cs : CoreSpace} (m : Memref sig c.2.kind cs s e) (q : PosShare TreeShare)
    {off size : Fin s.rank → ℕ} {inb : ∀ a, off a + size a ≤ s.size a} (off' : Fin s.rank → ℕ) (ho : off = off')
    (inb' : ∀ a, off' a + size a ≤ s.size a) (X : (Rect.unit (s := s) off' size inb').shape.Idx → Val e)
    {hl : m.view.LoadsAt (Rect.unit (s := s) off size inb).toLoadRect}
    {k : ((Rect.unit (s := s) off size inb).toLoadRect.shape.Idx → Val e) → Prog (TpuEff nD τ sig Val Λ c.2) α} :
    (owns c (m.slice (Rect.unit (s := s) off' size inb') (fun _ => rfl)) q X : sProp 𝕄)
      ⊢ iprop((owns c (m.slice (Rect.unit (s := s) off' size inb') (fun _ => rfl)) q X -∗ wp frame (wpE defs 𝒱 c bd) E (k X) Q)
        -∗ wp frame (wpE defs 𝒱 c bd) E (.op (.load m (Rect.unit (s := s) off size inb).toLoadRect hl) k) Q) := by
  subst ho
  iintro Ho Hk
  ihave Ho' := (show (owns c (m.slice (Rect.unit (s := s) off size inb') (fun _ => rfl)) q X : sProp 𝕄)
    ⊢ iprop(∃ g, ⌜(m.slice (Rect.unit (s := s) off size inb') (fun _ => rfl)).view.read Val g = X⌝ ∗ (m.access (Rect.unit (s := s) off size inb)).loc c ↦[(m.access (Rect.unit (s := s) off size inb)).set]{q} g) from .rfl) $$ Ho
  icases Ho' with ⟨%f, %hf, H⟩
  iapply (wp_load_rect 𝒱 c bd E (m := m) (r := Rect.unit (s := s) off size inb) (S := (m.access (Rect.unit (s := s) off size inb)).set) subset_rfl) $$ H
  iintro H
  have hw : (m.access (Rect.unit (s := s) off size inb)).read Val f = X := hf
  rw [hw]
  iapply Hk
  rw [← hf]
  iapply (owns_intro c (m.slice (Rect.unit (s := s) off size inb') (fun _ => rfl)) q f); iexact H

/-- A store through the rectangle of an owned slice of its memref leaves the slice at the payload. -/
theorem st_slice {cs : CoreSpace} (m : Memref sig c.2.kind cs s e)
    {off size : Fin s.rank → ℕ} {inb : ∀ a, off a + size a ≤ s.size a} (off' : Fin s.rank → ℕ) (ho : off = off')
    (inb' : ∀ a, off' a + size a ≤ s.size a) (X : (Rect.unit (s := s) off' size inb').shape.Idx → Val e)
    {w : ((a : Fin s.rank) → Fin (size a)) → Val e} {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig Val Λ c.2) α} :
    (owns c (m.slice (Rect.unit (s := s) off' size inb') (fun _ => rfl)) fullShare X : sProp 𝕄)
      ⊢ iprop((owns c (m.slice (Rect.unit (s := s) off' size inb') (fun _ => rfl)) fullShare w -∗ wp frame (wpE defs 𝒱 c bd) E (k ⟨⟩) Q)
        -∗ wp frame (wpE defs 𝒱 c bd) E (.op (.store m (Rect.unit (s := s) off size inb) w Finset.univ hx hm) k) Q) := by
  subst ho
  iintro Ho Hk
  ihave Ho' := (show (owns c (m.slice (Rect.unit (s := s) off size inb') (fun _ => rfl)) fullShare X : sProp 𝕄)
    ⊢ iprop(∃ g, ⌜(m.slice (Rect.unit (s := s) off size inb') (fun _ => rfl)).view.read Val g = X⌝ ∗ (m.access (Rect.unit (s := s) off size inb)).loc c ↦[(m.access (Rect.unit (s := s) off size inb)).set]{fullShare} g) from .rfl) $$ Ho
  icases Ho' with ⟨%f, -, H⟩
  iapply (wp_store 𝒱 c bd E (m := m) (r := Rect.unit (s := s) off size inb) (Mk := Finset.univ)
    (S := (m.access (Rect.unit (s := s) off size inb)).set) subset_rfl) $$ H
  iintro H
  iapply Hk
  have hw : (m.slice (Rect.unit (s := s) off size inb') (fun _ => rfl)).view.read Val ((m.access (Rect.unit (s := s) off size inb)).write Val f w Finset.univ) = w :=
    View.read_write_univ f w
  ihave H' := (owns_intro c (m.slice (Rect.unit (s := s) off size inb') (fun _ => rfl)) fullShare ((m.access (Rect.unit (s := s) off size inb)).write Val f w Finset.univ)) $$ H
  rw [hw]
  iexact H'

theorem window_all {off : Fin s.rank → ℕ} (h0 : ∀ a, off a = 0) (X : s.Idx → Val e) (inb : ∀ a, off a + s.size a ≤ s.size a) :
    VecWindow.window X off s.size inb = X := by
  funext y
  refine congrArg X (funext fun a => Fin.ext ?_)
  show off a + 1 * (y a).val = (y a).val
  rw [h0 a]; omega

theorem put_all {off : Fin s.rank → ℕ} (h0 : ∀ a, off a = 0) (X w : s.Idx → Val e) : VecWindow.put X off s.size w = w := by
  funext y
  have h : ∀ a, off a ≤ (y a).val ∧ (y a).val < off a + s.size a := fun a => by rw [h0 a]; exact ⟨Nat.zero_le _, by have := (y a).isLt; omega⟩
  refine (dif_pos h).trans (congrArg w (funext fun a => Fin.ext ?_))
  show (y a).val - off a = (y a).val
  rw [h0 a]; rfl

/-- A load of all of an owned memref. -/
theorem ld_all {cs : CoreSpace} (m : Memref sig c.2.kind cs s e) (q : PosShare TreeShare) (X : s.Idx → Val e)
    {off : Fin s.rank → ℕ} {inb : ∀ a, off a + s.size a ≤ s.size a} (h0 : ∀ a, off a = 0)
    {hl : m.view.LoadsAt (Rect.unit (s := s) off s.size inb).toLoadRect}
    {k : (s.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (.op (.load m (Rect.unit (s := s) off s.size inb).toLoadRect hl) k) Q) := by
  have h := ld_win (Ix := Ix) (Name := Name) (U := U) (Lvl := Lvl) (defs := defs) (E := E) (Q := Q) 𝒱 c bd m q X (inb := inb) off rfl inb (hl := hl) (k := k)
  rw [show k (VecWindow.window X off s.size inb) = k X from congrArg k (window_all h0 X inb)] at h
  exact h

/-- A store over all of an owned memref. -/
theorem st_all {cs : CoreSpace} (m : Memref sig c.2.kind cs s e) (X : s.Idx → Val e)
    {off : Fin s.rank → ℕ} {inb : ∀ a, off a + s.size a ≤ s.size a} (h0 : ∀ a, off a = 0)
    {w : s.Idx → Val e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := s) off s.size inb) w Finset.univ hx hm) k) Q) := by
  have h := st_win (Ix := Ix) (Name := Name) (U := U) (Lvl := Lvl) (defs := defs) (E := E) (Q := Q) 𝒱 c bd m X (inb := inb) off rfl (w := w) (hx := hx) (hm := hm) (k := k)
  rw [put_all h0 X w] at h
  exact h

end

end Cert.MoE

end
-- ==== Proof.Contents.lean ====
/-
# What the kernel's buffers hold

Every value the kernel moves or computes, as a function of the blocks it fetches: the half of the tokens
a device holds in the short format, the gates, the two coefficient blocks, the accumulator after each
grid point, the half it sends and the result. Devices come in pairs along the last mesh axis (`peer`);
a device's own half of the pair's tokens is the half of its coordinate on that axis (`zc`).
-/
module

public import proofs.«01_k».proof.Proof.Gen.KernelIdeal.Skeleton
public import proofs.«01_k».proof.Proof.Access

@[expose] public section

noncomputable section

namespace Cert.MoE

open Cert.KernelIdeal Cert.KernelIdeal.Gen
open Idealize.ShloMosaic
open Idealize.SL.Sem

/-! ## The pairs -/

/-- The device that differs in the last mesh coordinate. -/
def peer (c : Dev nD) : Dev nD := ⟨(4 * (c.val / 4) + 2 * ((c.val / 2) % 2) + 1) - c.val % 2, k0_dev_lt c⟩
where
  k0_dev_lt (c : Dev nD) : (4 * (c.val / 4) + 2 * ((c.val / 2) % 2) + 1) - c.val % 2 < nD := by revert c; decide

/-- A device's coordinate on the last mesh axis. -/
def zc (c : Dev nD) : Fin 2 := ⟨c.val % 2, Nat.mod_lt _ (by decide)⟩

theorem peer_peer (c : Dev nD) : peer (peer c) = c := by revert c; decide
theorem peer_ne (c : Dev nD) : peer c ≠ c := by revert c; decide
theorem zc_peer_ne (c : Dev nD) : zc (peer c) ≠ zc c := by revert c; decide
def peerE : Dev nD ≃ Dev nD := ⟨peer, peer, peer_peer, peer_peer⟩

theorem dev1_eq (c : Dev nD) : (⟨k0_dev1 c, by rw [k0_dev1_eq]; exact (peer c).isLt⟩ : Dev nD) = peer c := Fin.ext (k0_dev1_eq c)
theorem dev2_eq (c : Dev nD) : (⟨k0_dev2 c, by rw [k0_dev2_eq]; exact (peer c).isLt⟩ : Dev nD) = peer c := Fin.ext (k0_dev2_eq c)
theorem dev3_eq (c : Dev nD) : (⟨k0_dev3 c, by rw [k0_dev3_eq]; exact (peer c).isLt⟩ : Dev nD) = peer c := Fin.ext (k0_dev3_eq c)
theorem dev4_eq (c : Dev nD) : (⟨k0_dev4 c, by rw [k0_dev4_eq]; exact (peer c).isLt⟩ : Dev nD) = peer c := Fin.ext (k0_dev4_eq c)
theorem dev5_eq (c : Dev nD) : (⟨k0_dev5 c, by rw [k0_dev5_eq]; exact (peer c).isLt⟩ : Dev nD) = peer c := Fin.ext (k0_dev5_eq c)

/-! ## Halves of the rows -/

/-- Where half `z` of the rows begins. -/
abbrev hoff (z : Fin 2) : Fin 2 → ℕ := ![512 * z.val, 0]
theorem hinb (z : Fin 2) : ∀ a, hoff z a + S512x1024.size a ≤ S1024x1024.size a := by revert z; decide
theorem hinb4 (z : Fin 2) : ∀ a, hoff z a + S512x4.size a ≤ S1024x4.size a := by revert z; decide
/-- Where half `j` of the hidden columns begins in the kept first weight, and of the hidden rows in the kept second. -/
abbrev coff (j : Fin 2) : Fin 2 → ℕ := ![0, 1024 * j.val]
abbrev roff (j : Fin 2) : Fin 2 → ℕ := ![1024 * j.val, 0]
theorem cinb (j : Fin 2) : ∀ a, coff j a + S1024x1024.size a ≤ S1024x2048.size a := by revert j; decide
theorem rinb (j : Fin 2) : ∀ a, roff j a + S1024x1024.size a ≤ S2048x1024.size a := by revert j; decide

theorem off1_h (c : Dev nD) : k0_off1 c = hoff (zc c) := k0_off1_eq c
theorem off2_h (c : Dev nD) : k0_off2 c = hoff (zc c) := k0_off2_eq c
theorem off3_h (c : Dev nD) : k0_off3 c = hoff (zc c) := k0_off3_eq c
theorem off4_h (c : Dev nD) : k0_off4 c = hoff (zc c) := k0_off4_eq c
theorem off13_h (c : Dev nD) : k0_off13 c = hoff (zc c) := k0_off13_eq c
theorem opp (c : Dev nD) : 512 - 512 * (c.val % 2) = 512 * (zc (peer c)).val := by revert c; decide
theorem opp' (c : Dev nD) : 1 - c.val % 2 = (zc (peer c)).val := by revert c; decide
theorem off5_h (c : Dev nD) : k0_off5 c = hoff (zc (peer c)) := by rw [k0_off5_eq, opp]
theorem off12_h (c : Dev nD) : k0_off12 c = hoff (zc (peer c)) := by rw [k0_off12_eq, opp]
theorem off8_own (i : grid0.Coords) (h : (i 0).val = 0) (c : Dev nD) : k0_off8 i c = hoff (zc c) := by
  rw [k0_off8_eq, if_pos h]; rfl
theorem off8_opp (i : grid0.Coords) (h : (i 0).val ≠ 0) (c : Dev nD) : k0_off8 i c = hoff (zc (peer c)) := by
  rw [k0_off8_eq, if_neg h, opp']
theorem off11_own (i : grid0.Coords) (h : (i 0).val = 5) (c : Dev nD) : k0_off11 i c = hoff (zc c) := by
  rw [k0_off11_eq, if_pos h]; rfl
theorem off11_opp (i : grid0.Coords) (h : (i 0).val ≠ 5) (c : Dev nD) : k0_off11 i c = hoff (zc (peer c)) := by
  rw [k0_off11_eq, if_neg h, opp']

section Halves
variable {α : Type}

/-- Half `z` of the rows. -/
abbrev getH (z : Fin 2) (f : S1024x1024.Idx → α) : S512x1024.Idx → α := VecWindow.window f (hoff z) S512x1024.size (hinb z)
abbrev setH (z : Fin 2) (f : S1024x1024.Idx → α) (w : S512x1024.Idx → α) : S1024x1024.Idx → α := VecWindow.put f (hoff z) S512x1024.size w
abbrev getH4 (z : Fin 2) (f : S1024x4.Idx → α) : S512x4.Idx → α := VecWindow.window f (hoff z) S512x4.size (hinb4 z)
abbrev setH4 (z : Fin 2) (f : S1024x4.Idx → α) (w : S512x4.Idx → α) : S1024x4.Idx → α := VecWindow.put f (hoff z) S512x4.size w
abbrev getC (j : Fin 2) (f : S1024x2048.Idx → α) : S1024x1024.Idx → α := VecWindow.window f (coff j) S1024x1024.size (cinb j)
abbrev setC (j : Fin 2) (f : S1024x2048.Idx → α) (w : S1024x1024.Idx → α) : S1024x2048.Idx → α := VecWindow.put f (coff j) S1024x1024.size w
abbrev getR (j : Fin 2) (f : S2048x1024.Idx → α) : S1024x1024.Idx → α := VecWindow.window f (roff j) S1024x1024.size (rinb j)
abbrev setR (j : Fin 2) (f : S2048x1024.Idx → α) (w : S1024x1024.Idx → α) : S2048x1024.Idx → α := VecWindow.put f (roff j) S1024x1024.size w

theorem put_in {s : Shape} (x : s.Idx → α) (off size : Fin s.rank → ℕ) (w : ((a : Fin s.rank) → Fin (size a)) → α) (y : s.Idx)
    (h : ∀ a, off a ≤ (y a).val ∧ (y a).val < off a + size a) :
    VecWindow.put x off size w y = w (Rect.unitLocal (s := s) (off := off) (size := size) y h) := dif_pos h
theorem put_out {s : Shape} (x : s.Idx → α) (off size : Fin s.rank → ℕ) (w : ((a : Fin s.rank) → Fin (size a)) → α) (y : s.Idx)
    (h : ¬ ∀ a, off a ≤ (y a).val ∧ (y a).val < off a + size a) : VecWindow.put x off size w y = x y := dif_neg h

theorem apart {z z' : Fin 2} (h : z ≠ z') (n : ℕ) : n * z.val + n ≤ n * z'.val ∨ n * z'.val + n ≤ n * z.val := by
  fin_cases z <;> fin_cases z' <;> simp_all

theorem getH_setH (z : Fin 2) (f : S1024x1024.Idx → α) (w) : getH z (setH z f w) = w := VecWindow.window_put_same _ _ _ _ _
theorem getH_setH_ne {z z' : Fin 2} (h : z ≠ z') (f : S1024x1024.Idx → α) (w) : getH z (setH z' f w) = getH z f :=
  VecWindow.window_put_of_disjoint _ _ _ _ _ _ _ (0 : Fin 2) (apart h 512)
theorem getH4_setH4 (z : Fin 2) (f : S1024x4.Idx → α) (w) : getH4 z (setH4 z f w) = w := VecWindow.window_put_same _ _ _ _ _
theorem getH4_setH4_ne {z z' : Fin 2} (h : z ≠ z') (f : S1024x4.Idx → α) (w) : getH4 z (setH4 z' f w) = getH4 z f :=
  VecWindow.window_put_of_disjoint _ _ _ _ _ _ _ (0 : Fin 2) (apart h 512)
theorem getC_setC (z : Fin 2) (f : S1024x2048.Idx → α) (w) : getC z (setC z f w) = w := VecWindow.window_put_same _ _ _ _ _
theorem getC_setC_ne {z z' : Fin 2} (h : z ≠ z') (f : S1024x2048.Idx → α) (w) : getC z (setC z' f w) = getC z f :=
  VecWindow.window_put_of_disjoint _ _ _ _ _ _ _ (1 : Fin 2) (apart h 1024)
theorem getR_setR (z : Fin 2) (f : S2048x1024.Idx → α) (w) : getR z (setR z f w) = w := VecWindow.window_put_same _ _ _ _ _
theorem getR_setR_ne {z z' : Fin 2} (h : z ≠ z') (f : S2048x1024.Idx → α) (w) : getR z (setR z' f w) = getR z f :=
  VecWindow.window_put_of_disjoint _ _ _ _ _ _ _ (0 : Fin 2) (apart h 1024)

/-- Two puts that cover the rows leave nothing of what was there before. -/
theorem setH_cover {z z' : Fin 2} (h : z ≠ z') (f g : S1024x1024.Idx → α) (a b) : setH z' (setH z f a) b = setH z' (setH z g a) b := by
  funext y
  have hy0 : (y 0).val < 1024 := (y 0).isLt
  have hy1 : (y 1).val < 1024 := (y 1).isLt
  by_cases h' : ∀ k, hoff z' k ≤ (y k).val ∧ (y k).val < hoff z' k + S512x1024.size k
  · exact (put_in _ _ _ _ y h').trans (put_in _ _ _ _ y h').symm
  · refine (put_out _ _ _ _ y h').trans (Eq.trans ?_ (put_out _ _ _ _ y h').symm)
    have h'' : ∀ k, hoff z k ≤ (y k).val ∧ (y k).val < hoff z k + S512x1024.size k := by
      refine fun k => ?_
      have h2 : ¬ ((512 * z'.val ≤ (y 0).val ∧ (y 0).val < 512 * z'.val + 512) ∧ (0 ≤ (y 1).val ∧ (y 1).val < 0 + 1024)) := fun hh =>
        h' fun k => by
          match k with
          | 0 => exact hh.1
          | 1 => exact hh.2
      have h3 : z.val ≠ z'.val := fun e => h (Fin.ext e)
      have := z.isLt; have := z'.isLt
      match k with
      | 0 => show 512 * z.val ≤ (y 0).val ∧ (y 0).val < 512 * z.val + 512; omega
      | 1 => show 0 ≤ (y 1).val ∧ (y 1).val < 0 + 1024; omega
    exact (put_in _ _ _ _ y h'').trans (put_in _ _ _ _ y h'').symm
theorem setH4_cover {z z' : Fin 2} (h : z ≠ z') (f g : S1024x4.Idx → α) (a b) : setH4 z' (setH4 z f a) b = setH4 z' (setH4 z g a) b := by
  funext y
  have hy0 : (y 0).val < 1024 := (y 0).isLt
  have hy1 : (y 1).val < 4 := (y 1).isLt
  by_cases h' : ∀ k, hoff z' k ≤ (y k).val ∧ (y k).val < hoff z' k + S512x4.size k
  · exact (put_in _ _ _ _ y h').trans (put_in _ _ _ _ y h').symm
  · refine (put_out _ _ _ _ y h').trans (Eq.trans ?_ (put_out _ _ _ _ y h').symm)
    have h'' : ∀ k, hoff z k ≤ (y k).val ∧ (y k).val < hoff z k + S512x4.size k := by
      refine fun k => ?_
      have h2 : ¬ ((512 * z'.val ≤ (y 0).val ∧ (y 0).val < 512 * z'.val + 512) ∧ (0 ≤ (y 1).val ∧ (y 1).val < 0 + 4)) := fun hh =>
        h' fun k => by
          match k with
          | 0 => exact hh.1
          | 1 => exact hh.2
      have h3 : z.val ≠ z'.val := fun e => h (Fin.ext e)
      have := z.isLt; have := z'.isLt
      match k with
      | 0 => show 512 * z.val ≤ (y 0).val ∧ (y 0).val < 512 * z.val + 512; omega
      | 1 => show 0 ≤ (y 1).val ∧ (y 1).val < 0 + 4; omega
    exact (put_in _ _ _ _ y h'').trans (put_in _ _ _ _ y h'').symm

/-- Contents with two halves in them. -/
theorem eq_setH {z z' : Fin 2} (h : z ≠ z') (f g : S1024x1024.Idx → α) :
    f = setH z' (setH z g (getH z f)) (getH z' f) := by
  rw [setH_cover h g f]
  have e (z : Fin 2) : setH z f (getH z f) = f := by
    funext y
    by_cases h' : ∀ k, hoff z k ≤ (y k).val ∧ (y k).val < hoff z k + S512x1024.size k
    · refine (dif_pos h').trans (congrArg f (funext fun k => Fin.ext ?_))
      show hoff z k + 1 * ((y k).val - hoff z k) = (y k).val
      have := h' k; omega
    · exact dif_neg h'
  rw [e z, e z']
end Halves

/-! ## The values -/

variable {F : FTy → Type} [FloatOps F] [Named F]

/-- The blocks the kernel fetches: tokens, router columns, and the two weight blocks of each grid point. -/
structure Blocks (F : FTy → Type) where
  x : Dev nD → Vec F S512x1024 .f32
  r : Dev nD → Vec F S1024x4 .f32
  w1 : Dev nD → ℕ → Vec F S1x1024x1024 .f32
  w2 : Dev nD → ℕ → Vec F S1x1024x1024 .f32

variable (B : Blocks F) (c : Dev nD)

/-- The last mesh coordinate as the kernel computes it. -/
abbrev zw (d0 : Dev nD) : BitVec 32 := Scalar.remsi (Scalar.divsi (Dev.word d0) 1#32) 2#32
abbrev lanes : IVec S512x4 32 := iota .tc S512x4 32 [1] iota_S512x4_d1_w32

def xb : Vec F S512x1024 .bf16 := k0_pay5 (B.x c)
def gates : FVec F S512x8 .f32 := k0_pay7 (zw c) (B.x c) (B.r c) (B.r (peer c))
def cm : Vec F S512x4 .f32 := k0_pay9 (zw c) (gates B c)
def cs : Vec F S512x4 .f32 := k0_pay13 c (k0_pay8 (gates B c))
/-- The pair's tokens in the short format, the own half at its place. -/
def xf : Vec F S1024x1024 .bf16 :=
  setH (zc (peer c)) (setH (zc c) (constant S1024x1024 .bf16 0x0000#16 : FVec F S1024x1024 .bf16) (xb B c)) (xb B (peer c))
def cf : Vec F S1024x4 .f32 :=
  setH4 (zc (peer c)) (setH4 (zc c) (constant S1024x4 .f32 0x00000000#32 : FVec F S1024x4 .f32) (k0_pay14 (cm B c))) (k0_pay15 (cs B (peer c)))

theorem getH_xf_own : getH (zc c) (xf B c) = xb B c := by
  unfold xf; rw [getH_setH_ne (zc_peer_ne c).symm, getH_setH]
theorem getH_xf_opp : getH (zc (peer c)) (xf B c) = xb B (peer c) := by
  unfold xf; rw [getH_setH]

/-- The accumulator after the body at point `t`, from what it held before. -/
def pstep (t : ℕ) (f : Vec F S1024x1024 .f32) : Vec F S1024x1024 .f32 :=
  if t < 2 then setH (zc c) f (k0_pay12 0#32 lanes (xb B c) (k0_pay10 (B.w1 c t)) (k0_pay11 (B.w2 c t)) (cm B c) (cm B c) (getH (zc c) f))
  else if t < 6 then k0_pay2 (BitVec.ofNat 32 (t / 2)) (xf B c) (B.w1 c t) (B.w2 c t) (cf B c) f
  else if t < 8 then setH (zc (peer c)) f (k0_pay1 3#32 lanes (getH (zc (peer c)) (xf B c)) (B.w1 c t) (B.w2 c t) (cm B c) (cs B (peer c)) (getH (zc (peer c)) f))
  else if t < 10 then setH (zc (peer c)) f (k0_pay12 4#32 lanes (getH (zc (peer c)) (xf B c)) (k0_pay10 (B.w1 c (t - 8))) (k0_pay11 (B.w2 c (t - 8))) (cm B c) (cs B (peer c)) (getH (zc (peer c)) f))
  else setH (zc c) f (k0_pay1 5#32 lanes (getH (zc c) (xf B c)) (B.w1 c t) (B.w2 c t) (cm B c) (cs B (peer c)) (getH (zc c) f))

def pacc : ℕ → Vec F S1024x1024 .f32
  | 0 => k0_pay6
  | t + 1 => pstep B c t (pacc t)

def sbv : Vec F S512x1024 .bf16 := k0_pay3 (getH (zc (peer c)) (pacc B c 10))
def outv : Vec F S512x1024 .f32 := k0_pay4 (getH (zc c) (pacc B c 12)) (sbv B (peer c))

/-- With the first grid coordinate 0 the coefficients the pair sends are not used. -/
theorem pay12_zero (v53 : Vec F S512x1024 .bf16) (v56 v63 : Vec F S1024x1024 .bf16) (v65 v66 v66' : Vec F S512x4 .f32) (v75 : Vec F S512x1024 .f32) :
    k0_pay12 0#32 lanes v53 v56 v63 v65 v66 v75 = k0_pay12 0#32 lanes v53 v56 v63 v65 v66' v75 := rfl

end Cert.MoE

end
-- ==== Proof.Protocol.lean ====
/-
# The exchange of a pair

Nine semaphore cells per device: the barrier, four send and four receive cells. Each has one round with
one duty. What each hands over when it is waited for:

* barrier of `c`, signalled by `peer c` once it has entered: `peer c`'s landing buffers — all its rows for the
  router columns, the half of its token buffer that `c` fills, its share of the buffer for the coefficients,
  and the buffer for the returned half;
* receive 0: the peer's router columns; send 0: the own router columns back;
* receive 1: the peer's half of the tokens; send 1: the lent share of the own half back;
* receive 2: the coefficients the peer computed for the own experts; send 2: the sent buffer back;
* receive 3: the peer's partial result for the own half; send 3: the sent buffer back.

The coefficient buffer is loaded while the peer's copy into it is in flight (at a point where the loaded value is not
used); it is therefore held in write mode until that copy has been waited for.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.WriteMode

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) Unit
abbrev UW (F : FTy → Type) : Type := WmRA nD τ sig (Elt F)
abbrev UU (F : FTy → Type) : Type := UR sig nD τ × (UB × UW F)
abbrev MM (F : FTy → Type) : Type _ := MT nD τ sig Unit (Elt F) ℕ (UU F) ℕ

abbrev EP : Emb (UR sig nD τ) (MM F) := embL
abbrev ER : Emb UB (MM F) := (Emb.inl : Emb UB (UB × UW F)).trans embR
abbrev EW : UEmb (UW F) (UU F) := UEmb.inr.trans UEmb.inr

/-! ## Buffers and cells -/

abbrev xM : Memref sig .tc .vmem S512x1024 .f32 := Memref.whole cc0_stg0_0
abbrev rM : Memref sig .tc .vmem S1024x4 .f32 := Memref.whole cc0_stg1_0
abbrev xfM : Memref sig .tc .vmem S1024x1024 .bf16 := Memref.whole cc0_scratch0
abbrev roM : Memref sig .tc .vmem S1024x4 .f32 := Memref.whole cc0_scratch1
abbrev cmM : Memref sig .tc .vmem S512x4 .f32 := Memref.whole cc0_scratch2
abbrev csM : Memref sig .tc .vmem S512x4 .f32 := Memref.whole cc0_scratch3
abbrev cpM : Memref sig .tc .vmem S512x4 .f32 := Memref.whole cc0_scratch4
abbrev cfM : Memref sig .tc .vmem S1024x4 .f32 := Memref.whole cc0_scratch5
abbrev paM : Memref sig .tc .vmem S1024x1024 .f32 := Memref.whole cc0_scratch6
abbrev sbM : Memref sig .tc .vmem S512x1024 .bf16 := Memref.whole cc0_scratch7
abbrev rbM : Memref sig .tc .vmem S512x1024 .bf16 := Memref.whole cc0_scratch8
abbrev k1M : Memref sig .tc .vmem S1024x2048 .bf16 := Memref.whole cc0_scratch9
abbrev k2M : Memref sig .tc .vmem S2048x1024 .bf16 := Memref.whole cc0_scratch10
/-- Half `z` of the token buffer. -/
abbrev xfH (z : Fin 2) : Memref sig .tc .vmem S512x1024 .bf16 :=
  xfM.slice (Rect.unit (s := S1024x1024) (hoff z) S512x1024.size (hinb z)) (fun _ => rfl)

abbrev barS : Sem sig := (SemArray.scalar (sig.barrier 0 rfl) : Sems sig S_).sem
abbrev s4 (A : DmaSems sig S4) : Fin 4 → DmaSem sig
  | 0 => ((A.slice (Rect.unit (s := S4) ![0] S1.size inb_S4_S1_0)).squeeze S_ squeezes_S1_S_).sem
  | 1 => ((A.slice (Rect.unit (s := S4) ![1] S1.size inb_S4_S1_1)).squeeze S_ squeezes_S1_S_).sem
  | 2 => ((A.slice (Rect.unit (s := S4) ![2] S1.size inb_S4_S1_2)).squeeze S_ squeezes_S1_S_).sem
  | 3 => ((A.slice (Rect.unit (s := S4) ![3] S1.size inb_S4_S1_3)).squeeze S_ squeezes_S1_S_).sem

/-- A device's nine cells: barrier, sends, receives. -/
abbrev csem : Fin 9 → SemLoc sig
  | 0 => .reg barS
  | 1 => .dma (s4 cc0_scratch11 0) | 2 => .dma (s4 cc0_scratch11 1) | 3 => .dma (s4 cc0_scratch11 2) | 4 => .dma (s4 cc0_scratch11 3)
  | 5 => .dma (s4 cc0_scratch12 0) | 6 => .dma (s4 cc0_scratch12 1) | 7 => .dma (s4 cc0_scratch12 2) | 8 => .dma (s4 cc0_scratch12 3)
/-- The eight that the kernel allocates. -/
abbrev osem : Fin 8 → SemLoc sig := fun k => csem k.succ
abbrev kcell (ck : Dev nD × Fin 9) : GSem nD τ sig := ((ck.1 : Thread nD τ), csem ck.2)

/-- Which of the nine a semaphore is. -/
def kOf (s : SemLoc sig) : Option (Fin 9) := (List.finRange 9).find? fun k => decide (csem k = s)
theorem kOf_csem (k : Fin 9) : kOf (csem k) = some k := by revert k; decide
theorem csem_injective : Function.Injective csem := fun a b h => by
  have := congrArg kOf h; rw [kOf_csem, kOf_csem] at this; exact Option.some.inj this

abbrev N0 : ℕ := roM.view.dmaCredit
abbrev N1 : ℕ := (xfH 0).view.dmaCredit
abbrev N2 : ℕ := cpM.view.dmaCredit
abbrev N3 : ℕ := rbM.view.dmaCredit
/-- What each cell counts to. -/
def amt : Fin 9 → ℕ
  | 0 => 1 | 1 => N0 | 2 => N1 | 3 => N2 | 4 => N3 | 5 => N0 | 6 => N1 | 7 => N2 | 8 => N3
theorem amt_pos (k : Fin 9) : 0 < amt k := by
  match k with
  | 0 => exact Nat.one_pos
  | 1 => exact View.dmaCredit_pos _ (by decide)
  | 2 => exact View.dmaCredit_pos _ (by decide)
  | 3 => exact View.dmaCredit_pos _ (by decide)
  | 4 => exact View.dmaCredit_pos _ (by decide)
  | 5 => exact View.dmaCredit_pos _ (by decide)
  | 6 => exact View.dmaCredit_pos _ (by decide)
  | 7 => exact View.dmaCredit_pos _ (by decide)
  | 8 => exact View.dmaCredit_pos _ (by decide)

/-- Whose cell of kind `k` device `c` pays: its own send cells, its peer's others. -/
def dest (c : Dev nD) (k : Fin 9) : Dev nD := match k with
  | 1 => c | 2 => c | 3 => c | 4 => c
  | 0 => peer c | 5 => peer c | 6 => peer c | 7 => peer c | 8 => peer c
theorem dest_dest (c : Dev nD) (k : Fin 9) : dest (dest c k) k = c := by revert c k; decide
def destE (k : Fin 9) : Dev nD ≃ Dev nD := ⟨fun c => dest c k, fun c => dest c k, fun c => dest_dest c k, fun c => dest_dest c k⟩

/-! ## The coefficient buffer in write mode -/

/-- A share of device `d`'s coefficient buffer held in write mode, to be written with `g`, the elements `W` known written. -/
def cpW (d : Dev nD) (q : PosShare TreeShare) (g : Vec F S512x4 .f32) (W : Finset (Idx (cpM.view.loc (d : Thread nD τ)))) : sProp (MM F) :=
  iprop(∃ f : Buf (Elt F) (cpM.view.loc (d : Thread nD τ)), willBeTo EW (cpM.view.loc (d : Thread nD τ)) Finset.univ q f (fun i => some (g i)) W)

instance cpW_storable (d : Dev nD) (q : PosShare TreeShare) (g : Vec F S512x4 .f32) (W) : BI.Storable (upEmb : UEmb _ (MM F)) (cpW d q g W) := by
  unfold cpW; infer_instance

/-- The invariant of write mode, under its name. -/
abbrev wmI (κ : ℕ) : sProp (MM F) := wmInv (Ix := Unit) (Lvl := ℕ) (EW (F := F)) κ

/-! ## The schedule -/

variable (B : Blocks F)

def pay (c : Dev nD) (k : Fin 9) : sProp (MM F) := match k with
  | 0 => iprop((∃ X, owns (peer c : Thread nD τ) roM fullShare X) ∗ (∃ X, owns (peer c : Thread nD τ) (xfH (zc c)) fullShare X)
      ∗ cpW (peer c) fullShare.right (cs B c) ∅ ∗ (∃ X, owns (peer c : Thread nD τ) rbM fullShare X))
  | 1 => owns (c : Thread nD τ) rM fullShare (B.r c)
  | 2 => owns (c : Thread nD τ) (xfH (zc c)) fullShare.left (xb B c)
  | 3 => owns (c : Thread nD τ) csM fullShare (cs B c)
  | 4 => owns (c : Thread nD τ) sbM fullShare (sbv B c)
  | 5 => owns (c : Thread nD τ) roM fullShare (B.r (peer c))
  | 6 => owns (c : Thread nD τ) (xfH (zc (peer c))) fullShare (xb B (peer c))
  | 7 => cpW c fullShare.right (cs B (peer c)) Finset.univ
  | 8 => owns (c : Thread nD τ) rbM fullShare (sbv B (peer c))

instance pay_storable (c : Dev nD) (k : Fin 9) : BI.Storable (upEmb : UEmb _ (MM F)) (pay B c k) := by
  match k with
  | 0 => unfold pay; infer_instance
  | 1 => unfold pay; infer_instance
  | 2 => unfold pay; infer_instance
  | 3 => unfold pay; infer_instance
  | 4 => unfold pay; infer_instance
  | 5 => unfold pay; infer_instance
  | 6 => unfold pay; infer_instance
  | 7 => unfold pay; infer_instance
  | 8 => unfold pay; infer_instance

/-- One round per cell, one duty in it. -/
def Rd : Rounds.Schedule (GSem nD τ sig) Unit (MM F) where
  duties g r := if r = 0 ∧ g.1.2 = .tc ∧ (kOf g.2).isSome then {()} else ∅
  unitless _ := False
  amount g _ _ := match kOf g.2 with | some k => amt k | none => 1
  payload g _ _ := match kOf g.2 with | some k => pay B g.1.1 k | none => iprop(emp)
  amount_pos g _ _ _ := by
    cases kOf g.2 with
    | none => exact Nat.one_pos
    | some k => exact amt_pos k

instance Rd_payload_storable (g : GSem nD τ sig) (r : ℕ) (d : Unit) : BI.Storable (upEmb : UEmb _ (MM F)) ((Rd B).payload g r d) := by
  show BI.Storable upEmb (match kOf g.2 with | some k => pay B g.1.1 k | none => iprop(emp))
  cases kOf g.2 <;> infer_instance

theorem duties_k (c : Dev nD) (k : Fin 9) : (Rd B).duties (kcell (c, k)) 0 = {()} := by
  dsimp only [Rd]; exact if_pos ⟨rfl, rfl, by rw [kOf_csem]; rfl⟩
theorem duties_later (g : GSem nD τ sig) : ∀ r, 0 + 1 ≤ r → (Rd B).duties g r = ∅ :=
  fun r hr => by dsimp only [Rd]; exact if_neg fun h => by omega
theorem amount_k (c : Dev nD) (k : Fin 9) (d : Unit) : (Rd B).amount (kcell (c, k)) 0 d = amt k := by
  dsimp only [Rd]; rw [kOf_csem]
theorem payload_k (c : Dev nD) (k : Fin 9) (d : Unit) : (Rd B).payload (kcell (c, k)) 0 d = pay B c k := by
  dsimp only [Rd]; rw [kOf_csem]
theorem expect_k (c : Dev nD) (k : Fin 9) : (Rd B).expect (kcell (c, k)) 0 = amt k := by
  unfold Schedule.expect Schedule.amountOf; rw [duties_k, Finset.sum_singleton, amount_k]
theorem rest_k (c : Dev nD) (k : Fin 9) :
    bigSep ((Rd B).duties (kcell (c, k)) 0 \ ∅) (fun d => (Rd B).payload (kcell (c, k)) 0 d) = pay B c k := by
  rw [Finset.sdiff_empty, duties_k, bigSep_singleton, payload_k]

/-! ## What is owed; the levels -/

/-- What device `c` still has to pay, the next payment first. -/
def Ow (c : Dev nD) : List (Fin 9) → CellTallies nD τ sig Unit
  | [] => 0
  | k :: ks => Ow c ks + tallyAt (kcell (dest c k, k)) () (amt k)

def L (g : GSem nD τ sig) : Finset Unit := if g.1.2 = .tc then {()} else ∅
def lvl : Fin 9 → ℕ
  | 0 => 1 | 1 => 0 | 2 => 0 | 3 => 0 | 4 => 0 | 5 => 2 | 6 => 3 | 7 => 4 | 8 => 5
def lv (g : GSem nD τ sig) (_ : Unit) : ℕ := match kOf g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {g : GSem nD τ sig} {u : Unit} : ∀ {ks : List (Fin 9)}, 0 < Ow c ks g u → ∃ k ∈ ks, g = kcell (dest c k, k)
  | [], h => absurd h (Nat.lt_irrefl 0)
  | k :: ks, h => by
    unfold Ow at h
    rw [Pi.add_apply, Finsupp.add_apply, tallyAt_apply] at h
    by_cases hk : g = kcell (dest c k, k)
    · exact ⟨k, List.mem_cons_self, hk⟩
    · rw [if_neg (fun h' => hk h'.1)] at h
      obtain ⟨j, hj, e⟩ := Ow_pos (ks := ks) h
      exact ⟨j, List.mem_cons_of_mem _ hj, e⟩

/-- A wait at a level below everything still owed. -/
theorem mayWait (c : Dev nD) (sm : SemLoc sig) (n : ℕ) (hn : (match kOf sm with | some k => lvl k | none => 0) ≤ n) (ks : List (Fin 9)) (h : ∀ j ∈ ks, n < lvl j) :
    (levAts L lv : sProp (MM F)) ⊢ MayWait (c : Thread nD τ) sm () (Ow c ks) := by
  refine MayOwe.of_cut (L := L) (lev := lv) n (fun p hp => by rw [Finset.mem_singleton.mp hp, L_tc]; exact Finset.mem_singleton_self _)
      (fun g u hg => by obtain ⟨k, hk, rfl⟩ := Ow_pos hg; exact Finset.mem_singleton_self _)
      (fun p hp => by rw [Finset.mem_singleton.mp hp]; exact hn)
      (fun g u hg => by
        obtain ⟨k, hk, rfl⟩ := Ow_pos hg
        dsimp only [lv]; rw [kOf_csem]; exact h k hk)

/-! ## A device's ghost state -/

section Ghost
variable (c : Dev nD) (k : Fin 9)
/-- Device `c` waits for its cell `k`; -/
def pos : sProp (MM F) := atPos ER (kcell (c, k)) 0 ∅ 0
/-- it is to pay a cell of kind `k`; -/
def tok : sProp (MM F) := dutyTok ER (kcell (dest c k, k)) 0 ()
/-- its cell `k` will be paid; -/
def crd : sProp (MM F) := cred (tallyAt (kcell (c, k)) () (amt k))
/-- its cell `k` is done with. -/
def zs : sProp (MM F) := semVal (kcell (c, k)) 0
end Ghost

theorem all_inv (K : Dev nD × Fin 9 → ℕ) (ck : Dev nD × Fin 9) :
    (bigSep Finset.univ fun ck : Dev nD × Fin 9 => (cellInv ER (Rd B) (K ck) (kcell ck) : sProp (MM F))) ⊢ cellInv ER (Rd B) (K ck) (kcell ck) :=
  bigSep_elim (Finset.mem_univ ck)
theorem all_reached (ck : Dev nD × Fin 9) :
    (bigSep Finset.univ fun ck : Dev nD × Fin 9 => (reached ER (kcell ck) 0 : sProp (MM F))) ⊢ reached ER (kcell ck) 0 :=
  bigSep_elim (Finset.mem_univ ck)

/-- What is known throughout: write mode's invariant, every cell's invariant, every cell at its round, the levels. -/
def ctx (κ : ℕ) (K : Dev nD × Fin 9 → ℕ) : sProp (MM F) :=
  iprop(wmI κ ∗ (bigSep Finset.univ fun ck : Dev nD × Fin 9 => cellInv ER (Rd B) (K ck) (kcell ck))
    ∗ (bigSep Finset.univ fun ck : Dev nD × Fin 9 => reached ER (kcell ck) 0) ∗ levAts L lv)

instance ctx_persistent (κ : ℕ) (K : Dev nD × Fin 9 → ℕ) : BI.Persistent (ctx B κ K) := by unfold ctx; infer_instance

section
variable (κ : ℕ) (K : Dev nD × Fin 9 → ℕ)
theorem ctx_wm : ctx B κ K ⊢ wmI κ := by unfold ctx; iintro ⟨#H, -⟩; iexact H
theorem ctx_inv (ck : Dev nD × Fin 9) : ctx B κ K ⊢ cellInv ER (Rd B) (K ck) (kcell ck) := by

  unfold ctx; iintro ⟨-, #H, -⟩
  iapply (all_inv B K ck); iexact H
theorem ctx_reached (ck : Dev nD × Fin 9) : ctx B κ K ⊢ reached ER (kcell ck) 0 := by

  unfold ctx; iintro ⟨-, -, #H, -⟩
  iapply (all_reached ck); iexact H
theorem ctx_lev : ctx B κ K ⊢ levAts L lv := by unfold ctx; iintro ⟨-, -, -, #H⟩; iexact H
end

end Cert.MoE

end
-- ==== Proof.Steps.lean ====
/-
# The steps of the exchange

One rule per signal, wait and remote copy of the kernel, each at the cells of the protocol: what the step takes of a
device's ghost state and buffers and what it leaves.
-/
module

public import proofs.«01_k».proof.Proof.Protocol

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev 𝒱₀ : Variants := Variants.none

variable (B : Blocks F) (κ : ℕ) (K : Dev nD × Fin 9 → ℕ) (c : Dev nD)
variable {α : Type} {Q : α → sProp (MM F)}

/-- The device's program from here on. -/
abbrev run (p : Prog (TpuEff nD τ sig (Elt F) Λ₀ .tc) α) (Q : α → sProp (MM F)) : sProp (MM F) :=
  wp frame (wpE (defs₀ (F := F)) 𝒱₀ (c : Thread nD τ) none) Set.univ p Q

/-- Entering: the peer's barrier is signalled with what it is to be handed. -/
theorem sig_step (n : Dev nD) (hn : n = peer c) (ks : List (Fin 9)) (W : Waits sig Unit)
    {k : PUnit → Prog (TpuEff nD τ sig (Elt F) Λ₀ .tc) α} :
    iprop(ctx B κ K ∗ owes (c : Thread nD τ) (Ow c (0 :: ks)) W ∗ tok c 0 ∗ pay B (peer c) 0)
      ⊢ iprop((owes (c : Thread nD τ) (Ow c ks) W -∗ run c (k ⟨⟩) Q)
        -∗ run c (.op (.semSignal (n : Thread nD τ) barS 1) k) Q) := by
  subst hn
  unfold tok
  iintro ⟨#Hc, HO, Ht, Hp⟩ Hk
  iapply (Rounds.wp_signal 𝒱₀ ER (Rd B) (c : Thread nD τ) none (dst := (peer c : Thread nD τ)) (κ := K (peer c, 0))
      (d := ()) (by rw [show ((peer c : Thread nD τ), SemLoc.reg barS) = kcell (peer c, 0) from rfl, duties_k]; exact Finset.mem_singleton_self _)
      (amount_k B (peer c) 0 ()) () (Ow c ks) rfl) $$ [HO Ht Hp]
  · isplitr; · iapply (ctx_inv B κ K (peer c, 0)); iexact Hc
    isplitl [HO]; · iexact HO
    isplitl [Ht]; · iexact Ht
    isplitl [Hp]; · rw [show ((peer c : Thread nD τ), SemLoc.reg barS) = kcell (peer c, 0) from rfl, payload_k]; iexact Hp
    iapply (ctx_reached B κ K (peer c, 0)); iexact Hc
  iexact Hk

/-- A wait for the whole of an own cell: it hands over its payload, and the cell is done with. -/
theorem wait_step (j : Fin 9) (ks : List (Fin 9)) (hl : ∀ i ∈ ks, lvl j < lvl i) (W : Waits sig Unit)
    {w : TpuEff nD τ sig (Elt F) Λ₀ .tc PUnit} {N : ℕ} (hN : N = amt j)
    (hw : ∀ K : PUnit → sProp (MM F), wpE (defs₀ (F := F)) 𝒱₀ (c : Thread nD τ) none Set.univ w K = waitSpec (c : Thread nD τ) Set.univ (csem j) N K)
    {k : PUnit → Prog (TpuEff nD τ sig (Elt F) Λ₀ .tc) α} :
    iprop(ctx B κ K ∗ owes (c : Thread nD τ) (Ow c ks) W ∗ pos c j ∗ crd c j)
      ⊢ iprop(((∃ W, owes (c : Thread nD τ) (Ow c ks) W) ∗ zs c j ∗ pay B c j -∗ run c (k ⟨⟩) Q)
        -∗ run c (.op w k) Q) := by
  subst hN
  unfold pos crd zs
  iintro ⟨#Hc, HO, Hat, Hcr⟩ Hk
  iapply (Rounds.wp_wait_rest_token 𝒱₀ ER (Rd B) (c : Thread nD τ) none (κ := K (c, j)) hw (Set.mem_univ _) () (O := Ow c ks) (W := W) (R := 0) (m := 0) (T := ∅)
      (by rw [Nat.zero_add]; exact (expect_k B c j).symm)) $$ [HO Hat Hcr]
  · isplitr; · iapply (ctx_inv B κ K (c, j)); iexact Hc
    isplitl [Hcr]; · iexact Hcr
    isplitl [HO]; · iexact HO
    isplitr
    · iapply (mayWait (F := F) c (csem j) (lvl j) (by rw [kOf_csem]) ks hl); iapply (ctx_lev B κ K); iexact Hc
    iexact Hat
  iintro ⟨HO, Hat, -, Hp⟩
  imod (Rounds.cell_close ER (Rd B) (Set.mem_univ (K (c, j))) (fun h => h) (R := 0 + 1) (duties_later B (kcell (c, j)))) $$ [Hat] with Hz
  · isplitr; · iapply (ctx_inv B κ K (c, j)); iexact Hc
    iexact Hat
  ihave Hp' := (Entails.of_eq (rest_k B c j)) $$ Hp
  iapply Hk
  isplitl [HO]; · iexists _; iexact HO
  isplitl [Hz]; · iexact Hz
  iexact Hp'

/-- A remote copy to the peer: its two cells are `j` (the own send cell) and `j'` (the peer's receive cell). -/
theorem send_step (n : Dev nD) (hn : n = peer c) (j j' : Fin 9) (hj : dest c j = c) (hj' : dest c j' = peer c) (hjj : amt j = amt j')
    {sp sp' : Space} {s : Shape} {e : EltTy} (ks : List (Fin 9)) (W : Waits sig Unit)
    {src : Memref sig .tc sp s e} {dst : Memref sig (Dev.tc n : Thread nD τ).2.kind sp' s e} {hsc : dst.view.ref.isScScratch = false}
    {sS sR : SemLoc sig} (hsS : sS = csem j) (hsR : sR = csem j')
    {hsrc : src.view.WordExact} {hdst : dst.view.WordExact} {hsem : DmaTarget.Typed sp sR (.remote (Dev.tc n : Thread nD τ) dst sS hsc)}
    (hN : dst.view.amount sR = amt j') (q : PosShare TreeShare) (X : s.Idx → Elt F e) (R : sProp (MM F))
    (h₁ : owns (c : Thread nD τ) src q X ⊢ pay B c j) (h₂ : R ⊢ pay B (peer c) j')
    {k : PUnit → Prog (TpuEff nD τ sig (Elt F) Λ₀ .tc) α} :
    iprop(ctx B κ K ∗ owns (c : Thread nD τ) src q X ∗ writeUpdate (Dev.tc n : Thread nD τ) dst.view X R
        ∗ owes (c : Thread nD τ) (Ow c (j' :: ks)) W ∗ tok c j ∗ tok c j')
      ⊢ iprop((crd c j ∗ owes (c : Thread nD τ) (Ow c ks) W -∗ run c (k ⟨⟩) Q)
        -∗ run c (.op (.enqueueDma src (.remote (Dev.tc n : Thread nD τ) dst sS hsc) sR hsrc hdst hsem) k) Q) := by
  subst hn hsS hsR
  unfold tok crd
  iintro ⟨#Hc, Ho, Hw, HO, Ht, Ht'⟩ Hk
  ihave Ho' := (show (owns (c : Thread nD τ) src q X : sProp (MM F)) ⊢ iprop(∃ g, ⌜src.view.read (Elt F) g = X⌝ ∗ src.view.loc (c : Thread nD τ) ↦[src.view.set]{q} g) from .rfl) $$ Ho
  icases Ho' with ⟨%f, %hf, H⟩
  subst hf
  rw [hj, hj']
  iapply (Rounds.wp_send 𝒱₀ ER (Rd B) (c : Thread nD τ) none (κ₁ := K (c, j)) (κ₂ := K (peer c, j')) (r₁ := 0) (r₂ := 0) (d₁ := ()) (d₂ := ()) (R := R) (fs := f) (q := q)
      (by rw [show ((c : Thread nD τ), csem j) = kcell (c, j) from rfl, duties_k]; exact Finset.mem_singleton_self _)
      (by rw [show ((Dev.tc (peer c) : Thread nD τ), csem j') = kcell (peer c, j') from rfl, duties_k]; exact Finset.mem_singleton_self _)
      () () (amt j') hN ((amount_k B c j ()).trans hjj) (amount_k B (peer c) j' ()) (Ow c ks)
      (show Ow c (j' :: ks) = Ow c ks + tallyAt (kcell (peer c, j')) () (amt j') by rw [Ow, hj'])
      (W := W)
      ((owns_intro (c : Thread nD τ) src q f).trans (h₁.trans (Entails.of_eq (payload_k B c j ()).symm)))
      (h₂.trans (Entails.of_eq (payload_k B (peer c) j' ()).symm))) $$ [H Hw HO Ht Ht']
  · isplitr; · iapply (ctx_inv B κ K (c, j)); iexact Hc
    isplitr; · iapply (ctx_inv B κ K (peer c, j')); iexact Hc
    isplitl [H]; · iexact H
    isplitl [Hw]; · iexact Hw
    isplitl [HO]; · iexact HO
    isplitl [Ht]; · iexact Ht
    isplitr; · iapply (ctx_reached B κ K (c, j)); iexact Hc
    isplitl [Ht']; · iexact Ht'
    iapply (ctx_reached B κ K (peer c, j')); iexact Hc
  iintro ⟨H1, H2⟩
  iapply Hk
  isplitl [H1]; · rw [hjj]; iexact H1
  iexact H2

theorem writeUpdate_mono (d : Dev nD) {sp : Space} {s : Shape} {e : EltTy} (v : View sig .tc sp s e) (w : s.Idx → Elt F e) {R R' : sProp (MM F)}
    (h : R ⊢ R') : writeUpdate (d : Thread nD τ) v w R ⊢ writeUpdate (d : Thread nD τ) v w R' := by
  rw [writeUpdate, writeUpdate, writeUpdateFrom_def, writeUpdateFrom_def]
  iintro ⟨%P, HP, Hs, He⟩
  iexists P
  isplitl [HP]; · iexact HP
  isplitl [Hs]; · iexact Hs
  iintro H
  iapply h
  iapply He
  iexact H

/-- What a copy into an owned memref needs, and leaves. -/
theorem owns_writeUpdate (d : Dev nD) {sp : Space} {s : Shape} {e : EltTy} (m : Memref sig .tc sp s e) (X Y : s.Idx → Elt F e) :
    (owns (d : Thread nD τ) m fullShare X : sProp (MM F)) ⊢ writeUpdate (d : Thread nD τ) m.view Y (owns (d : Thread nD τ) m fullShare Y) := by
  have h (f : Buf (Elt F) (m.view.loc (d : Thread nD τ))) : (owns (d : Thread nD τ) m fullShare (m.view.read (Elt F) (m.view.write (Elt F) f Y Finset.univ)) : sProp (MM F))
      = owns (d : Thread nD τ) m fullShare Y := by rw [View.read_write_univ]
  iintro Ho
  ihave Ho' := (show (owns (d : Thread nD τ) m fullShare X : sProp (MM F)) ⊢ iprop(∃ g, ⌜m.view.read (Elt F) g = X⌝ ∗ m.view.loc (d : Thread nD τ) ↦[m.view.set]{fullShare} g) from .rfl) $$ Ho
  icases Ho' with ⟨%f, -, H⟩
  iapply (writeUpdate_mono d m.view Y ((owns_intro (d : Thread nD τ) m fullShare _).trans (Entails.of_eq (h f))))
  iapply (pointsTo_writeUpdate (d : Thread nD τ) (v := m.view) (w := Y) (fd := f) (Finset.Subset.refl _))
  iexact H

/-! ## The coefficient buffer -/

theorem cp_enter (g : Vec F S512x4 .f32) (X : Vec F S512x4 .f32) :
    iprop(wmI κ ∗ owns (c : Thread nD τ) cpM fullShare X) ⊢ |={Set.univ}=> iprop(cpW c fullShare.left g ∅ ∗ cpW c fullShare.right g ∅ : sProp (MM F)) := by
  rw [owns_whole]
  unfold cpW
  iintro ⟨#Hw, H⟩
  imod (pointsTo_castIn (emb := EW) (ιwm := κ) (ℓ := cpM.view.loc (c : Thread nD τ)) (fun i => some (g i))) $$ [H] with H
  · isplitr; · iexact Hw
    iexact H
  imodintro
  icases H with ⟨H1, H2⟩
  isplitl [H1]
  · iexists _; iexact H1
  · iexists _; iexact H2

theorem cp_exit (g : Vec F S512x4 .f32) :
    iprop(wmI κ ∗ cpW c fullShare.left g ∅ ∗ cpW c fullShare.right g Finset.univ) ⊢ |={Set.univ}=> (owns (c : Thread nD τ) cpM fullShare g : sProp (MM F)) := by
  rw [owns_whole]
  unfold cpW
  iintro ⟨#Hw, ⟨%f₁, H₁⟩, ⟨%f₂, H₂⟩⟩
  icombine H₁ H₂ as H
  ihave %hag := BI.Region.willBe_agree $$ H
  icases H with ⟨H₁, H₂⟩
  ihave H₂' := (Entails.of_eq (BI.Region.willBe_congr (ι := (wmEmb Unit (EW (F := F))).toEmb) (q := fullShare.right) (W := Finset.univ) (W' := Finset.univ)
      (fun i hi => ((hag i (Finset.mem_inter.mpr ⟨hi, hi⟩)).1.1).symm) (fun _ _ => rfl) (fun _ _ => Iff.rfl))) $$ H₂
  icombine H₁ H₂' as H
  imod (willBeTo_castOut_some (emb := EW) (ιwm := κ) (E := Set.univ)) $$ [H] with Hp
  · isplitr; · iexact Hw
    iexact H
  imodintro
  iapply (Entails.of_eq (pointsTo_congr fun i hi => ?_)) $$ Hp
  exact Finset.piecewise_eq_of_mem _ _ _ (Finset.mem_union_right _ (Finset.mem_univ _))

theorem cp_update (g : Vec F S512x4 .f32) (q : PosShare TreeShare) :
    iprop(wmI κ ∗ cpW c q g ∅) ⊢ writeUpdate (c : Thread nD τ) cpM.view g (cpW c q g Finset.univ : sProp (MM F)) := by
  have h (f : Buf (Elt F) (cpM.view.loc (c : Thread nD τ))) := willBeTo_writeUpdate (Ix := Unit) (Lvl := ℕ) (emb := EW (F := F)) (ιwm := κ) (c : Thread nD τ) (v := cpM.view) (w := g) (S := Finset.univ) (q := q)
    (f := f) (g := fun i => some (g i)) (W := ∅) (Finset.subset_univ _) ((View.admitted_some_iff (v := cpM.view) (g := g)).mpr fun x _ => rfl)
  unfold cpW
  iintro ⟨#Hw, ⟨%f, H⟩⟩
  have h' := (h f).trans (writeUpdate_mono c cpM.view g (R' := iprop(∃ f : Buf (Elt F) (cpM.view.loc (c : Thread nD τ)),
      willBeTo EW (cpM.view.loc (c : Thread nD τ)) Finset.univ q f (fun i => some (g i)) Finset.univ))
    (by rw [show (∅ : Finset (Idx (cpM.view.loc (c : Thread nD τ)))) ∪ cpM.view.set = Finset.univ from by rw [View.set_whole]; exact Finset.empty_union _]
        iintro H; iexists f; iexact H))
  iapply h'
  isplitr; · iexact Hw
  iexact H

/-- A load of the coefficient buffer in write mode reads something. -/
theorem cp_load (g : Vec F S512x4 .f32) (q : PosShare TreeShare) (W) (r : Rect S512x4) {hl : cpM.view.LoadsAt r.toLoadRect}
    {k : (r.toLoadRect.shape.Idx → Elt F .f32) → Prog (TpuEff nD τ sig (Elt F) Λ₀ .tc) α} :
    iprop(wmI κ ∗ cpW c q g W) ⊢ iprop((∀ X, cpW c q g W -∗ run c (k X) Q) -∗ run c (.op (.load cpM r.toLoadRect hl) k) Q) := by
  unfold cpW
  iintro ⟨#Hw, ⟨%f, H⟩⟩ Hk
  iapply (wp_load_willBeTo (emb := EW) (ιwm := κ) 𝒱₀ (c : Thread nD τ) none Set.univ (Finset.subset_univ _)) $$ [H]
  · isplitr; · iexact Hw
    iexact H
  iintro %cur %W' - H
  iapply Hk
  iexists f; iexact H

end Cert.MoE

end
-- ==== Proof.Begin.lean ====
/-
# The first point: the exchange begins

The tokens' halves of the token buffer, and the block that enters the barrier, sends the router columns and the own half
of the tokens, computes the gates and the coefficients, and sends the peer its coefficients.
-/
module

public import proofs.«01_k».proof.Proof.Steps

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The two halves of the token buffer -/

section
variable (d : Dev nD)

theorem halves_disjoint (z z' : Fin 2) (h : z ≠ z') :
    Disjoint (Rect.unit (s := S1024x1024) (hoff z) S512x1024.size (hinb z)).set (Rect.unit (s := S1024x1024) (hoff z') S512x1024.size (hinb z')).set :=
  Rect.unit_disjoint (0 : Fin 2) (apart h 512)

theorem halves_cover : (Finset.univ : Finset (Fin 2)).biUnion (fun z => (Rect.unit (s := S1024x1024) (hoff z) S512x1024.size (hinb z)).set) = Finset.univ := by
  refine Finset.eq_univ_of_forall fun y => Finset.mem_biUnion.mpr ?_
  have h0 : (y 0).val < 1024 := (y 0).isLt
  have h1 : (y 1).val < 1024 := (y 1).isLt
  by_cases hy : (y 0).val < 512
  · refine ⟨0, Finset.mem_univ _, Rect.mem_set_unit.mpr fun a => ?_⟩
    match a with
    | 0 => show 512 * 0 ≤ (y 0).val ∧ (y 0).val < 512 * 0 + 512; omega
    | 1 => show 0 ≤ (y 1).val ∧ (y 1).val < 0 + 1024; omega
  · refine ⟨1, Finset.mem_univ _, Rect.mem_set_unit.mpr fun a => ?_⟩
    match a with
    | 0 => show 512 * 1 ≤ (y 0).val ∧ (y 0).val < 512 * 1 + 512; omega
    | 1 => show 0 ≤ (y 1).val ∧ (y 1).val < 0 + 1024; omega

theorem bigSep_two {z z' : Fin 2} (h : z ≠ z') (Φ : Fin 2 → sProp (MM F)) : bigSep Finset.univ Φ = iprop(Φ z ∗ Φ z') :=
  bigSep_univ_eq_bigSepL [z, z'] (by revert z z'; decide) (by revert z z'; decide) Φ

theorem xf_split {z z' : Fin 2} (h : z ≠ z') (X : Vec F S1024x1024 .bf16) :
    owns (d : Thread nD τ) xfM fullShare X ⊢ (iprop(owns (d : Thread nD τ) (xfH z) fullShare (getH z X) ∗ owns (d : Thread nD τ) (xfH z') fullShare (getH z' X)) : sProp (MM F)) := by
  have e := owns_rects (Ix := Unit) (Name := ℕ) (U := UU F) (Lvl := ℕ) (d : Thread nD τ) xfM fullShare (fun z : Fin 2 => Rect.unit (s := S1024x1024) (hoff z) S512x1024.size (hinb z)) (fun _ _ => rfl) halves_disjoint halves_cover X
  rw [bigSep_two h] at e
  exact e

theorem xf_join {z z' : Fin 2} (h : z ≠ z') (X : Vec F S1024x1024 .bf16) :
    (iprop(owns (d : Thread nD τ) (xfH z) fullShare (getH z X) ∗ owns (d : Thread nD τ) (xfH z') fullShare (getH z' X)) : sProp (MM F)) ⊢ owns (d : Thread nD τ) xfM fullShare X := by
  have e := owns_of_rects (Ix := Unit) (Name := ℕ) (U := UU F) (Lvl := ℕ) (d : Thread nD τ) xfM fullShare (fun z : Fin 2 => Rect.unit (s := S1024x1024) (hoff z) S512x1024.size (hinb z)) (fun _ _ => rfl) halves_disjoint halves_cover X
  rw [bigSep_two h] at e
  exact e
end

/-- An update of the peer's cells, at the device word the program computes. -/
theorem update_at (d n : Dev nD) (hn : n = d) {sp : Space} {s : Shape} {e : EltTy} (v : View sig .tc sp s e) (w : s.Idx → Elt F e) (R : sProp (MM F)) :
    writeUpdate (d : Thread nD τ) v w R ⊢ writeUpdate (n : Thread nD τ) v w R := by subst hn; exact .rfl

/-- A slice of the token buffer is named by its offset. -/
theorem owns_off (d : Dev nD) {off off' : Fin 2 → ℕ} (ho : off = off') (inb : ∀ a, off a + S512x1024.size a ≤ S1024x1024.size a) (inb' : ∀ a, off' a + S512x1024.size a ≤ S1024x1024.size a)
    (q : PosShare TreeShare) (X : Vec F S512x1024 .bf16) :
    (owns (d : Thread nD τ) (xfM.slice (Rect.unit (s := S1024x1024) off' S512x1024.size inb') (fun _ => rfl)) q X : sProp (MM F))
      ⊢ owns (d : Thread nD τ) (xfM.slice (Rect.unit (s := S1024x1024) off S512x1024.size inb) (fun _ => rfl)) q X := by subst ho; exact .rfl

theorem credit_off (off off' : Fin 2 → ℕ) (inb : ∀ a, off a + S512x1024.size a ≤ S1024x1024.size a) (inb' : ∀ a, off' a + S512x1024.size a ≤ S1024x1024.size a) :
    (xfM.slice (Rect.unit (s := S1024x1024) off S512x1024.size inb) (fun _ => rfl)).view.dmaCredit
      = (xfM.slice (Rect.unit (s := S1024x1024) off' S512x1024.size inb') (fun _ => rfl)).view.dmaCredit := rfl
theorem credit_half (off : Fin 2 → ℕ) (inb : ∀ a, off a + S512x1024.size a ≤ S1024x1024.size a) :
    (xfM.slice (Rect.unit (s := S1024x1024) off S512x1024.size inb) (fun _ => rfl)).view.dmaCredit = amt 2 := credit_off _ _ _ (hinb 0)
theorem credit_half' (off : Fin 2 → ℕ) (inb : ∀ a, off a + S512x1024.size a ≤ S1024x1024.size a) :
    (xfM.slice (Rect.unit (s := S1024x1024) off S512x1024.size inb) (fun _ => rfl)).view.dmaCredit = amt 6 := credit_off _ _ _ (hinb 0)
theorem credit_r : rM.view.dmaCredit = amt 1 := rfl
theorem credit_ro : roM.view.dmaCredit = amt 5 := rfl
theorem credit_cs : csM.view.dmaCredit = amt 3 := rfl
theorem credit_cp : cpM.view.dmaCredit = amt 7 := rfl
theorem credit_sb : sbM.view.dmaCredit = amt 4 := rfl
theorem credit_rb : rbM.view.dmaCredit = amt 8 := rfl

section
variable (B : Blocks F) (c : Dev nD)
theorem pay_1 : pay B c 1 ⊢ owns (c : Thread nD τ) rM fullShare (B.r c) := .rfl
theorem pay_2 : pay B c 2 ⊢ owns (c : Thread nD τ) (xfH (zc c)) fullShare.left (xb B c) := .rfl
theorem pay_3 : pay B c 3 ⊢ owns (c : Thread nD τ) csM fullShare (cs B c) := .rfl
theorem pay_4 : pay B c 4 ⊢ owns (c : Thread nD τ) sbM fullShare (sbv B c) := .rfl
theorem pay_5 : pay B c 5 ⊢ owns (c : Thread nD τ) roM fullShare (B.r (peer c)) := .rfl
theorem pay_6 : pay B c 6 ⊢ owns (c : Thread nD τ) (xfH (zc (peer c))) fullShare (xb B (peer c)) := .rfl
theorem pay_7 : pay B c 7 ⊢ cpW c fullShare.right (cs B (peer c)) Finset.univ := .rfl
theorem pay_8 : pay B c 8 ⊢ owns (c : Thread nD τ) rbM fullShare (sbv B (peer c)) := .rfl
end

theorem run_ret {α : Type} (c : Dev nD) (a : α) (Q : α → sProp (MM F)) : Q a ⊢ run c (.ret a) Q := by
  unfold run
  rw [wp_ret]
  iintro H; imodintro; iexact H

theorem off0_2 : ∀ a, (![0, 0] : Fin 2 → ℕ) a = 0 := by decide
theorem off0_3 : ∀ a, (![0, 0, 0] : Fin 3 → ℕ) a = 0 := by decide

/-! ## The block -/

variable (B : Blocks F) (κ : ℕ) (K : Dev nD × Fin 9 → ℕ) (c : Dev nD) (i : grid0.Coords)
  (a2 : Memref sig .tc .vmem S512x1024 .f32) (h2 : a2.IsWhole) (a3 : Memref sig .tc .vmem S1024x4 .f32) (h3 : a3.IsWhole)
  (a4 : Memref sig .tc .vmem S1x1024x1024 .f32) (h4 : a4.IsWhole) (a5 : Memref sig .tc .vmem S1x1024x1024 .f32) (h5 : a5.IsWhole)
  (a6 : Memref sig .tc .vmem S512x1024 .f32) (h6 : a6.IsWhole)

/-- The block of the first point. -/
abbrev blk1 (k0_h1 : k0_cond1 i = 1#1) : Prog (TpuEff nD τ sig (Elt F) Λ₀ .tc) PUnit := do
  let v2 := Scalar.remsi (Scalar.divsi (Dev.word c) 4#32) 2#32
  let v5 := Scalar.remsi (Scalar.divsi (Dev.word c) 2#32) 2#32
  let v8 := zw c
  let v9 := Scalar.subi 1#32 v8
  let ⟨v76, c1_i32_43⟩ : Σ' (v76 : BitVec 32), BitVec 32 ← k0_part1 i a2 h2 rM (Memref.isWhole_whole _) a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12 c v2 v5 v8 v9 k0_h1
  let v109 : FVec F S512x8 .f32 ← k0_part2 i a2 h2 rM (Memref.isWhole_whole _) a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12 c v2 v5 v8 v9 k0_h1 v76 c1_i32_43
  let ⟨v148, v155⟩ : Σ' (v148 : FVec F S512x8 .f32), FVec F S512x4 .f32 ← k0_part3 i a2 h2 rM (Memref.isWhole_whole _) a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12 v8 v109
  Prog.lift (.store cmM (Rect.unit (s := S512x4) ![0, 0] S512x4.size inb_S512x4_S512x4_0_0) v155 Finset.univ (View.stores_vmem_bits_univ h_S512x4 rfl) (.inl rfl))
  let v160 : Vec F S512x4 .f32 ← Prog.lift (.load csM (Rect.unit (s := S512x4) ![0, 0] S512x4.size inb_S512x4_S512x4_0_0).toLoadRect (View.loadsAt_vmem h_S512x4))
  Prog.lift (.store csM (Rect.unit (s := S512x4) ![0, 0] S512x4.size inb_S512x4_S512x4_0_0) (k0_pay13 c v148) Finset.univ (View.stores_vmem_bits_univ h_S512x4 rfl) (.inl rfl))
  Prog.lift (.enqueueDma csM (.remote (Dev.tc (⟨k0_dev4 c, k0_dev4_lt i c k0_h1⟩ : Dev nD)) cpM (.dma (s4 cc0_scratch11 2))) (.dma (s4 cc0_scratch12 2)) (Memref.isWhole_whole _).wordExact (Memref.isWhole_whole _).wordExact ⟨⟨rfl, Or.inl rfl⟩, trivial⟩)
  pure ⟨⟩

def pre1 : sProp (MM F) :=
  iprop((∃ W, owes (c : Thread nD τ) (Ow c [0, 5, 6, 7, 8]) W) ∗ (pos c 0 ∗ pos c 1 ∗ pos c 5) ∗ (crd c 0 ∗ crd c 5)
    ∗ (tok c 0 ∗ tok c 1 ∗ tok c 5 ∗ tok c 2 ∗ tok c 6 ∗ tok c 3 ∗ tok c 7)
    ∗ owns (c : Thread nD τ) a2 fullShare (B.x c) ∗ owns (c : Thread nD τ) rM fullShare (B.r c)
    ∗ (∃ X, owns (c : Thread nD τ) xfM fullShare X) ∗ (∃ X, owns (c : Thread nD τ) roM fullShare X) ∗ (∃ X, owns (c : Thread nD τ) cmM fullShare X)
    ∗ (∃ X, owns (c : Thread nD τ) csM fullShare X) ∗ (∃ X, owns (c : Thread nD τ) cpM fullShare X) ∗ (∃ X, owns (c : Thread nD τ) paM fullShare X)
    ∗ (∃ X, owns (c : Thread nD τ) rbM fullShare X))

def post1 : sProp (MM F) :=
  iprop((∃ W, owes (c : Thread nD τ) (Ow c [8]) W) ∗ (zs c 0 ∗ zs c 1 ∗ zs c 5) ∗ (crd c 2 ∗ crd c 3)
    ∗ owns (c : Thread nD τ) a2 fullShare (B.x c) ∗ owns (c : Thread nD τ) rM fullShare (B.r c)
    ∗ owns (c : Thread nD τ) (xfH (zc c)) fullShare.right (xb B c) ∗ (∃ X, owns (c : Thread nD τ) roM fullShare X) ∗ owns (c : Thread nD τ) cmM fullShare (cm B c)
    ∗ cpW c fullShare.left (cs B (peer c)) ∅ ∗ owns (c : Thread nD τ) paM fullShare (k0_pay6 (F := F))
    ∗ (∃ X, owns (peer c : Thread nD τ) rbM fullShare X))

set_option maxHeartbeats 2000000 in
theorem blk1_wp (k0_h1 : k0_cond1 i = 1#1) (Q : PUnit → sProp (MM F)) :
    iprop(ctx B κ K ∗ pre1 B c a2 ∗ (post1 B c a2 -∗ Q ⟨⟩)) ⊢ run c (blk1 c i a2 h2 a4 h4 a5 h5 a6 h6 k0_h1) Q := by
  unfold blk1
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret]
  unfold pre1
  iintro ⟨#Hc, ⟨⟨%W, HO⟩, ⟨Hp0, Hp1, Hp5⟩, ⟨Hc0, Hc5⟩, ⟨Ht0, Ht1, Ht5, Ht2, Ht6, Ht3, Ht7⟩, Hx, Hr, ⟨%xf0, Hxf⟩, ⟨%ro0, Hro⟩, ⟨%cm0, Hcm⟩, ⟨%cs0, Hcs⟩, ⟨%cp0, Hcp⟩, ⟨%pa0, Hpa⟩, ⟨%rb0, Hrb⟩⟩, HQ⟩
  imod (cp_enter (F := F) κ c (cs B (peer c)) cp0) $$ [Hcp] with ⟨Hcpl, Hcpr⟩
  · isplitr; · iapply (ctx_wm B κ K); iexact Hc
    iexact Hcp
  ihave Hs := (xf_split (F := F) c (zc_peer_ne c).symm xf0) $$ Hxf
  icases Hs with ⟨Hown, Hopp⟩
  iapply (sig_step B κ K c _ (dev1_eq c) [5, 6, 7, 8] W) $$ [HO Ht0 Hro Hopp Hcpr Hrb]
  · isplitr; · iexact Hc
    isplitl [HO]; · iexact HO
    isplitl [Ht0]; · iexact Ht0
    unfold pay
    rw [peer_peer]
    isplitl [Hro]; · iexists ro0; iexact Hro
    isplitl [Hopp]; · iexists _; iexact Hopp
    isplitl [Hcpr]; · iexact Hcpr
    iexists rb0; iexact Hrb
  iintro HO
  iapply (wait_step B κ K c 0 [5, 6, 7, 8] (by decide) W (N := 1) rfl (wpE_semWait_eq 𝒱₀ (c : Thread nD τ) none Set.univ)) $$ [HO Hp0 Hc0]
  · isplitr; · iexact Hc
    isplitl [HO]; · iexact HO
    isplitl [Hp0]; · iexact Hp0
    iexact Hc0
  iintro ⟨⟨%W1, HO⟩, Hz0, Hp⟩
  ihave Hp' := (show pay B c 0 ⊢ iprop((∃ X, owns (peer c : Thread nD τ) roM fullShare X) ∗ (∃ X, owns (peer c : Thread nD τ) (xfH (zc c)) fullShare X)
      ∗ cpW (peer c) fullShare.right (cs B c) ∅ ∗ (∃ X, owns (peer c : Thread nD τ) rbM fullShare X)) from .rfl) $$ Hp
  icases Hp' with ⟨⟨%roP, HroP⟩, ⟨%xfP, HxfP⟩, HcpP, HrbP⟩
  iapply (send_step B κ K c _ (dev2_eq c) 1 5 rfl rfl rfl [6, 7, 8] W1 (dst := roM) rfl rfl credit_ro fullShare (B.r c) (owns (peer c : Thread nD τ) roM fullShare (B.r c)) .rfl
      (Entails.of_eq (by unfold pay; rw [peer_peer]))) $$ [Hr HroP HO Ht1 Ht5]
  · isplitr; · iexact Hc
    isplitl [Hr]; · iexact Hr
    isplitl [HroP]
    · iapply (update_at (peer c) _ (dev2_eq c)); iapply (owns_writeUpdate (peer c) roM roP); iexact HroP
    isplitl [HO]; · iexact HO
    isplitl [Ht1]; · iexact Ht1
    iexact Ht5
  iintro ⟨Hc1, HO⟩
  iapply (ld_all 𝒱₀ (c : Thread nD τ) none a2 fullShare (B.x c) off0_2) $$ Hx
  iintro Hx
  iapply (ld_slice 𝒱₀ (c : Thread nD τ) none xfM fullShare (hoff (zc c)) (off1_h c) (hinb (zc c)) (getH (zc c) xf0)) $$ Hown
  iintro Hown
  iapply (st_slice 𝒱₀ (c : Thread nD τ) none xfM (hoff (zc c)) (off1_h c) (hinb (zc c)) (getH (zc c) xf0)) $$ Hown
  iintro Hown
  ihave Hown' := (show owns (c : Thread nD τ) (xfM.slice (Rect.unit (s := S1024x1024) (hoff (zc c)) S512x1024.size (hinb (zc c))) (fun _ => rfl)) fullShare (k0_pay5 (B.x c)) ⊢ iprop(owns (c : Thread nD τ) (xfH (zc c)) fullShare.left (xb B c) ∗ owns (c : Thread nD τ) (xfH (zc c)) fullShare.right (xb B c))
    from (owns_halves (c : Thread nD τ) (xfH (zc c)) fullShare (xb B c)).1) $$ Hown
  icases Hown' with ⟨HownL, HownR⟩
  iapply (send_step B κ K c _ (dev3_eq c) 2 6 rfl rfl rfl [7, 8] W1 (src := (xfM.slice (Rect.unit (s := S1024x1024) (k0_off2 c) S512x1024.size (k0_off2_inb i c k0_h1)) (fun _ => rfl))) (dst := (xfM.slice (Rect.unit (s := S1024x1024) (k0_off2 c) S512x1024.size (k0_off2_inb i c k0_h1)) (fun _ => rfl))) rfl rfl (credit_half' (k0_off2 c) (k0_off2_inb i c k0_h1)) fullShare.left (xb B c)
      (owns (peer c : Thread nD τ) (xfM.slice (Rect.unit (s := S1024x1024) (k0_off2 c) S512x1024.size (k0_off2_inb i c k0_h1)) (fun _ => rfl)) fullShare (xb B c))
      (owns_off c (off2_h c).symm (hinb (zc c)) _ _ _) ((owns_off (peer c) (off2_h c).symm (hinb (zc c)) _ _ _).trans (Entails.of_eq (by unfold pay; rw [peer_peer])))) $$ [HownL HxfP HO Ht2 Ht6]
  · isplitr; · iexact Hc
    isplitl [HownL]; · iapply (owns_off c (off2_h c) _ (hinb (zc c)) _ _); iexact HownL
    isplitl [HxfP]
    · iapply (update_at (peer c) _ (dev3_eq c)); iapply (owns_writeUpdate (peer c) _ xfP); iapply (owns_off (peer c) (off2_h c) _ (hinb (zc c)) _ _); iexact HxfP
    isplitl [HO]; · iexact HO
    isplitl [Ht2]; · iexact Ht2
    iexact Ht6
  iintro ⟨Hc2, HO⟩
  iapply (ld_all 𝒱₀ (c : Thread nD τ) none paM fullShare pa0 off0_2) $$ Hpa
  iintro Hpa
  iapply (st_all 𝒱₀ (c : Thread nD τ) none paM pa0 off0_2) $$ Hpa
  iintro Hpa
  iapply (wait_step B κ K c 1 [7, 8] (by decide) W1 credit_r (wpE_waitDma2_eq (dst := rM) 𝒱₀ (c : Thread nD τ) none Set.univ)) $$ [HO Hp1 Hc1]
  · isplitr; · iexact Hc
    isplitl [HO]; · iexact HO
    isplitl [Hp1]; · iexact Hp1
    iexact Hc1
  iintro ⟨⟨%W2, HO⟩, Hz1, Hr⟩
  ihave Hr := (pay_1 B c) $$ Hr
  iapply (wait_step B κ K c 5 [7, 8] (by decide) W2 credit_ro (wpE_waitDma2_eq (dst := roM) 𝒱₀ (c : Thread nD τ) none Set.univ)) $$ [HO Hp5 Hc5]
  · isplitr; · iexact Hc
    isplitl [HO]; · iexact HO
    isplitl [Hp5]; · iexact Hp5
    iexact Hc5
  iintro ⟨⟨%W3, HO⟩, Hz5, Hro⟩
  ihave Hro := (pay_5 B c) $$ Hro
  iapply (ld_all 𝒱₀ (c : Thread nD τ) none a2 fullShare (B.x c) off0_2) $$ Hx
  iintro Hx
  iapply (ld_all 𝒱₀ (c : Thread nD τ) none rM fullShare (B.r c) off0_2) $$ Hr
  iintro Hr
  iapply (ld_all 𝒱₀ (c : Thread nD τ) none roM fullShare (B.r (peer c)) off0_2) $$ Hro
  iintro Hro
  iapply (ld_all 𝒱₀ (c : Thread nD τ) none cmM fullShare cm0 off0_2) $$ Hcm
  iintro Hcm
  iapply (st_all 𝒱₀ (c : Thread nD τ) none cmM cm0 off0_2) $$ Hcm
  iintro Hcm
  iapply (ld_all 𝒱₀ (c : Thread nD τ) none csM fullShare cs0 off0_2) $$ Hcs
  iintro Hcs
  iapply (st_all 𝒱₀ (c : Thread nD τ) none csM cs0 off0_2) $$ Hcs
  iintro Hcs
  iapply (send_step B κ K c _ (dev4_eq c) 3 7 rfl rfl rfl [8] W3 (dst := cpM) rfl rfl credit_cp fullShare (cs B c) (cpW (peer c) fullShare.right (cs B c) Finset.univ) .rfl
      (Entails.of_eq (by unfold pay; rw [peer_peer]))) $$ [Hcs HcpP HO Ht3 Ht7]
  · isplitr; · iexact Hc
    isplitl [Hcs]; · iexact Hcs
    isplitl [HcpP]
    · iapply (update_at (peer c) _ (dev4_eq c)); iapply (cp_update κ (peer c) (cs B c) fullShare.right)
      isplitr; · iapply (ctx_wm B κ K); iexact Hc
      iexact HcpP
    isplitl [HO]; · iexact HO
    isplitl [Ht3]; · iexact Ht3
    iexact Ht7
  iintro ⟨Hc3, HO⟩
  iapply (run_ret c)
  iapply HQ
  unfold post1
  isplitl [HO]; · iexists W3; iexact HO
  isplitl [Hz0 Hz1 Hz5]
  · isplitl [Hz0]; · iexact Hz0
    isplitl [Hz1]; · iexact Hz1
    iexact Hz5
  isplitl [Hc2 Hc3]
  · isplitl [Hc2]; · iexact Hc2
    iexact Hc3
  isplitl [Hx]; · iexact Hx
  isplitl [Hr]; · iexact Hr
  isplitl [HownR]; · iexact HownR
  isplitl [Hro]; · iexists _; iexact Hro
  isplitl [Hcm]; · iexact Hcm
  isplitl [Hcpl]; · iexact Hcpl
  isplitl [Hpa]; · iexact Hpa
  iexact HrbP

end Cert.MoE

end
-- ==== Proof.Middle.lean ====
/-
# The blocks of the body after the exchange has begun

For each conditional block of the body: what it needs, what it leaves.
-/
module

public import proofs.«01_k».proof.Proof.Begin

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem off6_c (i : grid0.Coords) (j : Fin 2) (hj : (i 1).val = j.val) : k0_off6 i = coff j := by
  rw [k0_off6_eq, hj]
theorem off7_c (i : grid0.Coords) (j : Fin 2) (hj : (i 1).val = j.val) : k0_off7 i = roff j := by
  rw [k0_off7_eq, hj]
theorem off9_c (i : grid0.Coords) (j : Fin 2) (hj : (i 1).val = j.val) : k0_off9 i = coff j := by
  rw [k0_off9_eq, hj]
theorem off10_c (i : grid0.Coords) (j : Fin 2) (hj : (i 1).val = j.val) : k0_off10 i = roff j := by
  rw [k0_off10_eq, hj]

theorem fupd_run {α : Type} (c : Dev nD) (p : Prog (TpuEff nD τ sig (Elt F) Λ₀ .tc) α) (Q : α → sProp (MM F)) : (|={Set.univ}=> run c p Q) ⊢ run c p Q := by
  unfold run
  iintro H; imod H; iexact H

variable (B : Blocks F) (κ : ℕ) (K : Dev nD × Fin 9 → ℕ) (c : Dev nD) (i : grid0.Coords)
  (a2 : Memref sig .tc .vmem S512x1024 .f32) (h2 : a2.IsWhole) (a3 : Memref sig .tc .vmem S1024x4 .f32) (h3 : a3.IsWhole)
  (a4 : Memref sig .tc .vmem S1x1024x1024 .f32) (h4 : a4.IsWhole) (a5 : Memref sig .tc .vmem S1x1024x1024 .f32) (h5 : a5.IsWhole)
  (a6 : Memref sig .tc .vmem S512x1024 .f32) (h6 : a6.IsWhole)

/-- The block of the third point: the halves have arrived. -/
abbrev blk2 (k0_h2 : k0_cond2 i = 1#1) : Prog (TpuEff nD τ sig (Elt F) Λ₀ .tc) PUnit := do
  let v2 := Scalar.remsi (Scalar.divsi (Dev.word c) 4#32) 2#32
  let v5 := Scalar.remsi (Scalar.divsi (Dev.word c) 2#32) 2#32
  let v8 := zw c
  let v9 := Scalar.subi 1#32 v8
  let v72 : Vec F S512x4 .f32 ← k0_part4 i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12 c v2 v5 v8 v9 k0_h2
  let v75 : Vec F S512x4 .f32 ← Prog.lift (.load cfM (Rect.unit (s := S1024x4) (k0_off4 c) S512x4.size (k0_off4_inb i c k0_h2)).toLoadRect (View.loadsAt_vmem h_S512x4))
  Prog.lift (.store cfM (Rect.unit (s := S1024x4) (k0_off4 c) S512x4.size (k0_off4_inb i c k0_h2)) (k0_pay14 v72) Finset.univ (View.stores_vmem_bits_univ h_S512x4 rfl) (.inl rfl))
  let v78 : Vec F S512x4 .f32 ← Prog.lift (.load cpM (Rect.unit (s := S512x4) ![0, 0] S512x4.size inb_S512x4_S512x4_0_0).toLoadRect (View.loadsAt_vmem h_S512x4))
  let v81 : Vec F S512x4 .f32 ← Prog.lift (.load cfM (Rect.unit (s := S1024x4) (k0_off5 c) S512x4.size (k0_off5_inb i c k0_h2)).toLoadRect (View.loadsAt_vmem h_S512x4))
  Prog.lift (.store cfM (Rect.unit (s := S1024x4) (k0_off5 c) S512x4.size (k0_off5_inb i c k0_h2)) (k0_pay15 v78) Finset.univ (View.stores_vmem_bits_univ h_S512x4 rfl) (.inl rfl))
  pure ⟨⟩

/-- The block that takes the weights through the caches. -/
abbrev blk3 (k0_h3 : k0_cond3 i = 1#1) : Prog (TpuEff nD τ sig (Elt F) Λ₀ .tc) PUnit := do
  k0_part5 i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12 (BitVec.ofNat 32 (i 0).val) (BitVec.ofNat 32 (i 1).val) c (zw c) (Scalar.subi 1#32 (zw c)) lanes k0_h3
  pure ⟨⟩

/-- The block that adds an expert of one half. -/
abbrev blk5 (k0_h5 : k0_cond5 i = 1#1) : Prog (TpuEff nD τ sig (Elt F) Λ₀ .tc) PUnit := do
  let v50 : Vec F S512x1024 .bf16 ← Prog.lift (.load xfM (Rect.unit (s := S1024x1024) (k0_off11 i c) S512x1024.size (k0_off11_inb i c k0_h5)).toLoadRect (View.loadsAt_vmem h_S512x1024))
  let v51 : Vec F S1x1024x1024 .f32 ← Prog.lift (.load a4 (Rect.unit (s := S1x1024x1024) ![0, 0, 0] S1x1024x1024.size inb_S1x1024x1024_S1x1024x1024_0_0_0).toLoadRect (View.loadsAt_vmem h_S1x1024x1024))
  let v58 : Vec F S1x1024x1024 .f32 ← Prog.lift (.load a5 (Rect.unit (s := S1x1024x1024) ![0, 0, 0] S1x1024x1024.size inb_S1x1024x1024_S1x1024x1024_0_0_0).toLoadRect (View.loadsAt_vmem h_S1x1024x1024))
  let v63 : Vec F S512x4 .f32 ← Prog.lift (.load cmM (Rect.unit (s := S512x4) ![0, 0] S512x4.size inb_S512x4_S512x4_0_0).toLoadRect (View.loadsAt_vmem h_S512x4))
  let v64 : Vec F S512x4 .f32 ← Prog.lift (.load cpM (Rect.unit (s := S512x4) ![0, 0] S512x4.size inb_S512x4_S512x4_0_0).toLoadRect (View.loadsAt_vmem h_S512x4))
  let v73 : Vec F S512x1024 .f32 ← Prog.lift (.load paM (Rect.unit (s := S1024x1024) (k0_off11 i c) S512x1024.size (k0_off11_inb i c k0_h5)).toLoadRect (View.loadsAt_vmem h_S512x1024))
  let v78 : Vec F S512x1024 .f32 ← Prog.lift (.load paM (Rect.unit (s := S1024x1024) (k0_off11 i c) S512x1024.size (k0_off11_inb i c k0_h5)).toLoadRect (View.loadsAt_vmem h_S512x1024))
  Prog.lift (.store paM (Rect.unit (s := S1024x1024) (k0_off11 i c) S512x1024.size (k0_off11_inb i c k0_h5)) (k0_pay1 (BitVec.ofNat 32 (i 0).val) lanes v50 v51 v58 v63 v64 v73) Finset.univ (View.stores_vmem_bits_univ h_S512x1024 rfl) (.inl rfl))
  pure ⟨⟩

/-- The condition of the block that adds an expert of both halves. -/
abbrev cond6 : BitVec 1 :=
  Scalar.cmpi .ne (Scalar.extui (Scalar.ori (Scalar.cmpi .eq (BitVec.ofNat 32 (i 0).val) 1#32) (Scalar.cmpi .eq (BitVec.ofNat 32 (i 0).val) 2#32)) : BitVec 32) 0#32

/-- The block that adds an expert of both halves. -/
abbrev blk6 : Prog (TpuEff nD τ sig (Elt F) Λ₀ .tc) PUnit := do
  let v46 : Vec F S1024x1024 .bf16 ← Prog.lift (.load xfM (Rect.unit (s := S1024x1024) ![0, 0] S1024x1024.size inb_S1024x1024_S1024x1024_0_0).toLoadRect (View.loadsAt_vmem h_S1024x1024))
  let v47 : Vec F S1x1024x1024 .f32 ← Prog.lift (.load a4 (Rect.unit (s := S1x1024x1024) ![0, 0, 0] S1x1024x1024.size inb_S1x1024x1024_S1x1024x1024_0_0_0).toLoadRect (View.loadsAt_vmem h_S1x1024x1024))
  let v54 : Vec F S1x1024x1024 .f32 ← Prog.lift (.load a5 (Rect.unit (s := S1x1024x1024) ![0, 0, 0] S1x1024x1024.size inb_S1x1024x1024_S1x1024x1024_0_0_0).toLoadRect (View.loadsAt_vmem h_S1x1024x1024))
  let v61 : Vec F S1024x4 .f32 ← Prog.lift (.load cfM (Rect.unit (s := S1024x4) ![0, 0] S1024x4.size inb_S1024x4_S1024x4_0_0).toLoadRect (View.loadsAt_vmem h_S1024x4))
  let v66 : Vec F S1024x1024 .f32 ← Prog.lift (.load paM (Rect.unit (s := S1024x1024) ![0, 0] S1024x1024.size inb_S1024x1024_S1024x1024_0_0).toLoadRect (View.loadsAt_vmem h_S1024x1024))
  let v70 : Vec F S1024x1024 .f32 ← Prog.lift (.load paM (Rect.unit (s := S1024x1024) ![0, 0] S1024x1024.size inb_S1024x1024_S1024x1024_0_0).toLoadRect (View.loadsAt_vmem h_S1024x1024))
  Prog.lift (.store paM (Rect.unit (s := S1024x1024) ![0, 0] S1024x1024.size inb_S1024x1024_S1024x1024_0_0) (k0_pay2 (BitVec.ofNat 32 (i 0).val) v46 v47 v54 v61 v66) Finset.univ (View.stores_vmem_bits_univ h_S1024x1024 rfl) (.inl rfl))
  pure ⟨⟩

/-- The block that sends the peer its half of the partial result. -/
abbrev blk7 (k0_h7 : k0_cond7 i = 1#1) : Prog (TpuEff nD τ sig (Elt F) Λ₀ .tc) PUnit := do
  let v48 : Vec F S512x1024 .f32 ← Prog.lift (.load paM (Rect.unit (s := S1024x1024) (k0_off12 c) S512x1024.size (k0_off12_inb i c k0_h7)).toLoadRect (View.loadsAt_vmem h_S512x1024))
  let v50 : Vec F S512x1024 .bf16 ← Prog.lift (.load sbM (Rect.unit (s := S512x1024) ![0, 0] S512x1024.size inb_S512x1024_S512x1024_0_0).toLoadRect (View.loadsAt_vmem h_S512x1024))
  Prog.lift (.store sbM (Rect.unit (s := S512x1024) ![0, 0] S512x1024.size inb_S512x1024_S512x1024_0_0) (k0_pay3 v48) Finset.univ (View.stores_vmem h_S512x1024 ((Memref.isWhole_whole _).storeExact_slice rfl _ packedbf16_S512x1024_S512x1024_0_0) (fun _ => rfl)) (.inl rfl))
  Prog.lift (.enqueueDma sbM (.remote (Dev.tc (⟨k0_dev5 c, k0_dev5_lt i c k0_h7⟩ : Dev nD)) rbM (.dma ((cc0_scratch11.slice (Rect.unit (s := S4) ![3] S1.size inb_S4_S1_3)).squeeze S_ squeezes_S1_S_).sem)) (.dma ((cc0_scratch12.slice (Rect.unit (s := S4) ![3] S1.size inb_S4_S1_3)).squeeze S_ squeezes_S1_S_).sem) (Memref.isWhole_whole _).wordExact (Memref.isWhole_whole _).wordExact ⟨⟨rfl, Or.inl rfl⟩, trivial⟩)
  pure ⟨⟩

/-- The block of the last point: the peer's part is added and the result stored. -/
abbrev blk8 (k0_h8 : k0_cond8 i = 1#1) : Prog (TpuEff nD τ sig (Elt F) Λ₀ .tc) PUnit := do
  Prog.lift (.waitDma2 ((cc0_scratch11.slice (Rect.unit (s := S4) ![3] S1.size inb_S4_S1_3)).squeeze S_ squeezes_S1_S_).sem rbM sbM (Memref.isWhole_whole _).wordExact (Memref.isWhole_whole _).wordExact)
  Prog.lift (.waitDma2 ((cc0_scratch12.slice (Rect.unit (s := S4) ![3] S1.size inb_S4_S1_3)).squeeze S_ squeezes_S1_S_).sem sbM rbM (Memref.isWhole_whole _).wordExact (Memref.isWhole_whole _).wordExact)
  let v58 : Vec F S512x1024 .f32 ← Prog.lift (.load paM (Rect.unit (s := S1024x1024) (k0_off13 c) S512x1024.size (k0_off13_inb i c k0_h8)).toLoadRect (View.loadsAt_vmem h_S512x1024))
  let v59 : Vec F S512x1024 .bf16 ← Prog.lift (.load rbM (Rect.unit (s := S512x1024) ![0, 0] S512x1024.size inb_S512x1024_S512x1024_0_0).toLoadRect (View.loadsAt_vmem h_S512x1024))
  let v62 : Vec F S512x1024 .f32 ← Prog.lift (.load a6 (Rect.unit (s := S512x1024) ![0, 0] S512x1024.size inb_S512x1024_S512x1024_0_0).toLoadRect (View.loadsAt_vmem h_S512x1024))
  Prog.lift (.store a6 (Rect.unit (s := S512x1024) ![0, 0] S512x1024.size inb_S512x1024_S512x1024_0_0) (k0_pay4 v58 v59) Finset.univ (View.stores_vmem_bits_univ h_S512x1024 rfl) (.inl rfl))
  pure ⟨⟩

set_option maxHeartbeats 2000000

theorem blk2_wp (k0_h2 : k0_cond2 i = 1#1) (Q : PUnit → sProp (MM F)) :
    iprop(ctx B κ K ∗ ((∃ W, owes (c : Thread nD τ) (Ow c [8]) W) ∗ (pos c 2 ∗ pos c 6 ∗ pos c 3 ∗ pos c 7) ∗ (crd c 2 ∗ crd c 6 ∗ crd c 3 ∗ crd c 7)
          ∗ owns (c : Thread nD τ) (xfH (zc c)) fullShare.right (xb B c) ∗ cpW c fullShare.left (cs B (peer c)) ∅ ∗ owns (c : Thread nD τ) cmM fullShare (cm B c) ∗ (∃ X, owns (c : Thread nD τ) cfM fullShare X))
        ∗ ((∃ W, owes (c : Thread nD τ) (Ow c [8]) W) ∗ (zs c 2 ∗ zs c 6 ∗ zs c 3 ∗ zs c 7) ∗ owns (c : Thread nD τ) xfM fullShare (xf B c) ∗ owns (c : Thread nD τ) cpM fullShare (cs B (peer c)) ∗ (∃ X, owns (c : Thread nD τ) csM fullShare X) ∗ owns (c : Thread nD τ) cmM fullShare (cm B c) ∗ owns (c : Thread nD τ) cfM fullShare (cf B c) -∗ Q ⟨⟩))
      ⊢ run c (blk2 c i a2 h2 a3 h3 a4 h4 a5 h5 a6 h6 k0_h2) Q := by
  unfold blk2
  simp only [k0_part4_eq_skeleton]
  unfold k0_part4_skel
  simp only [Prog.lift, Prog.bind_op, Prog.bind_ret, Prog.pure_eq_ret]
  iintro ⟨#Hc, ⟨⟨%W, HO⟩, ⟨Hp2, Hp6, Hp3, Hp7⟩, ⟨Hc2, Hc6, Hc3, Hc7⟩, HownR, Hcpl, Hcm, ⟨%cf0, Hcf⟩⟩, HQ⟩
  iapply (wait_step B κ K c 2 [8] (by decide) W (credit_half (k0_off3 c) (k0_off3_inb i c k0_h2)) (wpE_waitDma2_eq (dst := (xfM.slice (Rect.unit (s := S1024x1024) (k0_off3 c) S512x1024.size (k0_off3_inb i c k0_h2)) (fun _ => rfl))) 𝒱₀ (c : Thread nD τ) none Set.univ)) $$ [HO Hp2 Hc2]
  · isplitr; · iexact Hc
    isplitl [HO]; · iexact HO
    isplitl [Hp2]; · iexact Hp2
    iexact Hc2
  iintro ⟨⟨%W1, HO⟩, Hz2, HownL⟩
  ihave HownL := (pay_2 B c) $$ HownL
  iapply (wait_step B κ K c 6 [8] (by decide) W1 (credit_half' (k0_off3 c) (k0_off3_inb i c k0_h2)) (wpE_waitDma2_eq (dst := (xfM.slice (Rect.unit (s := S1024x1024) (k0_off3 c) S512x1024.size (k0_off3_inb i c k0_h2)) (fun _ => rfl))) 𝒱₀ (c : Thread nD τ) none Set.univ)) $$ [HO Hp6 Hc6]
  · isplitr; · iexact Hc
    isplitl [HO]; · iexact HO
    isplitl [Hp6]; · iexact Hp6
    iexact Hc6
  iintro ⟨⟨%W2, HO⟩, Hz6, Hopp⟩
  ihave Hopp := (pay_6 B c) $$ Hopp
  iapply (wait_step B κ K c 3 [8] (by decide) W2 (credit_cs) (wpE_waitDma2_eq (dst := csM) 𝒱₀ (c : Thread nD τ) none Set.univ)) $$ [HO Hp3 Hc3]
  · isplitr; · iexact Hc
    isplitl [HO]; · iexact HO
    isplitl [Hp3]; · iexact Hp3
    iexact Hc3
  iintro ⟨⟨%W3, HO⟩, Hz3, Hcs⟩
  ihave Hcs := (pay_3 B c) $$ Hcs
  iapply (wait_step B κ K c 7 [8] (by decide) W3 (credit_cp) (wpE_waitDma2_eq (dst := cpM) 𝒱₀ (c : Thread nD τ) none Set.univ)) $$ [HO Hp7 Hc7]
  · isplitr; · iexact Hc
    isplitl [HO]; · iexact HO
    isplitl [Hp7]; · iexact Hp7
    iexact Hc7
  iintro ⟨⟨%W4, HO⟩, Hz7, Hcpr⟩
  ihave Hcpr := (pay_7 B c) $$ Hcpr
  iapply fupd_run
  imod (cp_exit (F := F) κ c (cs B (peer c))) $$ [Hcpl Hcpr] with Hcp
  · isplitr; · iapply (ctx_wm B κ K); iexact Hc
    isplitl [Hcpl]; · iexact Hcpl
    iexact Hcpr
  imodintro
  iapply (ld_all 𝒱₀ (c : Thread nD τ) none cmM fullShare (cm B c) off0_2) $$ Hcm
  iintro Hcm
  iapply (ld_at 𝒱₀ (c : Thread nD τ) none cfM fullShare cf0 (hoff (zc c)) (off4_h c) (hinb4 (zc c))) $$ Hcf
  iintro Hcf
  iapply (st_win 𝒱₀ (c : Thread nD τ) none cfM cf0 (hoff (zc c)) (off4_h c)) $$ Hcf
  iintro Hcf
  iapply (ld_all 𝒱₀ (c : Thread nD τ) none cpM fullShare (cs B (peer c)) off0_2) $$ Hcp
  iintro Hcp
  iapply (ld_at 𝒱₀ (c : Thread nD τ) none cfM fullShare _ (hoff (zc (peer c))) (off5_h c) (hinb4 (zc (peer c)))) $$ Hcf
  iintro Hcf
  iapply (st_win 𝒱₀ (c : Thread nD τ) none cfM _ (hoff (zc (peer c))) (off5_h c)) $$ Hcf
  iintro Hcf
  iapply (run_ret c)
  iapply HQ
  isplitl [HO]; · iexists W4; iexact HO
  isplitl [Hz2 Hz6 Hz3 Hz7]
  · isplitl [Hz2]; · iexact Hz2
    isplitl [Hz6]; · iexact Hz6
    isplitl [Hz3]; · iexact Hz3
    iexact Hz7
  isplitl [HownL HownR Hopp]
  · iapply (xf_join c (zc_peer_ne c).symm (xf B c))
    rw [getH_xf_own, getH_xf_opp]
    isplitl [HownL HownR]
    · iapply (owns_halves (c : Thread nD τ) (xfH (zc c)) fullShare (xb B c)).2
      isplitl [HownL]; · iexact HownL
      iexact HownR
    iexact Hopp
  isplitl [Hcp]; · iexact Hcp
  isplitl [Hcs]; · iexists _; iexact Hcs
  isplitl [Hcm]; · iexact Hcm
  unfold cf
  rw [setH4_cover (zc_peer_ne c).symm _ cf0]
  iexact Hcf

theorem blk3_first (k0_h3 : k0_cond3 i = 1#1) (k0_h4 : k0_cond4 i = 1#1) (j : Fin 2) (h0 : (i 0).val = 0) (hj : (i 1).val = j.val)
    (V4 V5 : Vec F S1x1024x1024 .f32) (X : Vec F S512x1024 .bf16) (Y Z Z' : Vec F S512x4 .f32) (f : Vec F S1024x1024 .f32) (f1 : Vec F S1024x2048 .bf16) (f2 : Vec F S2048x1024 .bf16) (Q : PUnit → sProp (MM F)) :
    iprop(ctx B κ K ∗ (owns (c : Thread nD τ) a4 fullShare V4 ∗ owns (c : Thread nD τ) a5 fullShare V5 ∗ owns (c : Thread nD τ) (xfH (zc c)) fullShare.right X ∗ owns (c : Thread nD τ) cmM fullShare Y ∗ cpW c fullShare.left Z ∅ ∗ owns (c : Thread nD τ) k1M fullShare f1 ∗ owns (c : Thread nD τ) k2M fullShare f2 ∗ owns (c : Thread nD τ) paM fullShare f)
        ∗ (owns (c : Thread nD τ) a4 fullShare V4 ∗ owns (c : Thread nD τ) a5 fullShare V5 ∗ owns (c : Thread nD τ) (xfH (zc c)) fullShare.right X ∗ owns (c : Thread nD τ) cmM fullShare Y ∗ cpW c fullShare.left Z ∅
            ∗ owns (c : Thread nD τ) k1M fullShare (setC j f1 (k0_pay10 V4)) ∗ owns (c : Thread nD τ) k2M fullShare (setR j f2 (k0_pay11 V5))
            ∗ owns (c : Thread nD τ) paM fullShare (setH (zc c) f (k0_pay12 0#32 lanes X (k0_pay10 V4) (k0_pay11 V5) Y Z' (getH (zc c) f))) -∗ Q ⟨⟩))
      ⊢ run c (blk3 c i a2 h2 a3 h3 a4 h4 a5 h5 a6 h6 k0_h3) Q := by
  unfold blk3
  simp only [k0_part5_eq_skeleton]
  unfold k0_part5_skel
  simp only [dif_pos k0_h4]
  simp only [Prog.lift, Prog.bind_op, Prog.bind_ret, Prog.pure_eq_ret]
  iintro ⟨#Hc, ⟨H4, H5, Hx, Hm, Hp, Hk1, Hk2, Ha⟩, HQ⟩
  iapply (ld_all 𝒱₀ (c : Thread nD τ) none a4 fullShare V4 off0_3) $$ H4
  iintro H4
  iapply (ld_at 𝒱₀ (c : Thread nD τ) none k1M fullShare f1 (coff j) (off6_c i j hj) (cinb j)) $$ Hk1
  iintro Hk1
  iapply (st_win 𝒱₀ (c : Thread nD τ) none k1M f1 (coff j) (off6_c i j hj)) $$ Hk1
  iintro Hk1
  iapply (ld_all 𝒱₀ (c : Thread nD τ) none a5 fullShare V5 off0_3) $$ H5
  iintro H5
  iapply (ld_at 𝒱₀ (c : Thread nD τ) none k2M fullShare f2 (roff j) (off7_c i j hj) (rinb j)) $$ Hk2
  iintro Hk2
  iapply (st_win 𝒱₀ (c : Thread nD τ) none k2M f2 (roff j) (off7_c i j hj)) $$ Hk2
  iintro Hk2
  iapply (ld_slice 𝒱₀ (c : Thread nD τ) none xfM fullShare.right (hoff (zc c)) (off8_own i h0 c) (hinb (zc c)) X) $$ Hx
  iintro Hx
  iapply (ld_at 𝒱₀ (c : Thread nD τ) none k1M fullShare _ (coff j) (off9_c i j hj) (cinb j)) $$ Hk1
  iintro Hk1
  iapply (ld_at 𝒱₀ (c : Thread nD τ) none k2M fullShare _ (roff j) (off10_c i j hj) (rinb j)) $$ Hk2
  iintro Hk2
  iapply (ld_all 𝒱₀ (c : Thread nD τ) none cmM fullShare Y off0_2) $$ Hm
  iintro Hm
  iapply (cp_load κ c Z fullShare.left ∅) $$ [Hp]
  · isplitr; · iapply (ctx_wm B κ K); iexact Hc
    iexact Hp
  iintro %zz Hp
  iapply (ld_at 𝒱₀ (c : Thread nD τ) none paM fullShare f (hoff (zc c)) (off8_own i h0 c) (hinb (zc c))) $$ Ha
  iintro Ha
  iapply (ld_at 𝒱₀ (c : Thread nD τ) none paM fullShare f (hoff (zc c)) (off8_own i h0 c) (hinb (zc c))) $$ Ha
  iintro Ha
  iapply (st_win 𝒱₀ (c : Thread nD τ) none paM f (hoff (zc c)) (off8_own i h0 c)) $$ Ha
  iintro Ha
  iapply (run_ret c)
  iapply HQ
  isplitl [H4]; · iexact H4
  isplitl [H5]; · iexact H5
  isplitl [Hx]; · iexact Hx
  isplitl [Hm]; · iexact Hm
  isplitl [Hp]; · iexact Hp
  isplitl [Hk1]; · iexact Hk1
  isplitl [Hk2]; · iexact Hk2
  have e : k0_pay12 (BitVec.ofNat 32 (i 0).val) lanes X (getC j (setC j f1 (k0_pay10 V4))) (getR j (setR j f2 (k0_pay11 V5))) Y zz (getH (zc c) f)
      = k0_pay12 0#32 lanes X (k0_pay10 V4) (k0_pay11 V5) Y Z' (getH (zc c) f) := by
    rw [h0, getC_setC, getR_setR]
    exact pay12_zero _ _ _ _ _ _ _
  iapply (Entails.of_eq (congrArg (fun w => (owns (c : Thread nD τ) paM fullShare (setH (zc c) f w) : sProp (MM F))) e))
  iexact Ha

theorem blk3_later (k0_h3 : k0_cond3 i = 1#1) (k0_h4 : ¬ k0_cond4 i = 1#1) (j : Fin 2) (h0 : (i 0).val ≠ 0) (hj : (i 1).val = j.val)
    (X : Vec F S1024x1024 .bf16) (Y Z : Vec F S512x4 .f32) (f : Vec F S1024x1024 .f32) (f1 : Vec F S1024x2048 .bf16) (f2 : Vec F S2048x1024 .bf16) (Q : PUnit → sProp (MM F)) :
    iprop(iprop(owns (c : Thread nD τ) xfM fullShare X ∗ owns (c : Thread nD τ) cmM fullShare Y ∗ owns (c : Thread nD τ) cpM fullShare Z ∗ owns (c : Thread nD τ) k1M fullShare f1 ∗ owns (c : Thread nD τ) k2M fullShare f2 ∗ owns (c : Thread nD τ) paM fullShare f) ∗ (iprop(owns (c : Thread nD τ) xfM fullShare X ∗ owns (c : Thread nD τ) cmM fullShare Y ∗ owns (c : Thread nD τ) cpM fullShare Z ∗ owns (c : Thread nD τ) k1M fullShare f1 ∗ owns (c : Thread nD τ) k2M fullShare f2 ∗ owns (c : Thread nD τ) paM fullShare (setH (zc (peer c)) f (k0_pay12 (BitVec.ofNat 32 (i 0).val) lanes (getH (zc (peer c)) X) (getC j f1) (getR j f2) Y Z (getH (zc (peer c)) f)))) -∗ Q ⟨⟩))
      ⊢ run c (blk3 c i a2 h2 a3 h3 a4 h4 a5 h5 a6 h6 k0_h3) Q := by
  unfold blk3
  simp only [k0_part5_eq_skeleton]
  unfold k0_part5_skel
  simp only [dif_neg k0_h4]
  simp only [Prog.lift, Prog.bind_op, Prog.bind_ret, Prog.pure_eq_ret]
  iintro ⟨⟨Hx, Hm, Hp, Hk1, Hk2, Ha⟩, HQ⟩
  iapply (ld_at 𝒱₀ (c : Thread nD τ) none xfM fullShare X (hoff (zc (peer c))) (off8_opp i h0 c) (hinb (zc (peer c)))) $$ Hx
  iintro Hx
  iapply (ld_at 𝒱₀ (c : Thread nD τ) none k1M fullShare f1 (coff j) (off9_c i j hj) (cinb j)) $$ Hk1
  iintro Hk1
  iapply (ld_at 𝒱₀ (c : Thread nD τ) none k2M fullShare f2 (roff j) (off10_c i j hj) (rinb j)) $$ Hk2
  iintro Hk2
  iapply (ld_all 𝒱₀ (c : Thread nD τ) none cmM fullShare Y off0_2) $$ Hm
  iintro Hm
  iapply (ld_all 𝒱₀ (c : Thread nD τ) none cpM fullShare Z off0_2) $$ Hp
  iintro Hp
  iapply (ld_at 𝒱₀ (c : Thread nD τ) none paM fullShare f (hoff (zc (peer c))) (off8_opp i h0 c) (hinb (zc (peer c)))) $$ Ha
  iintro Ha
  iapply (ld_at 𝒱₀ (c : Thread nD τ) none paM fullShare f (hoff (zc (peer c))) (off8_opp i h0 c) (hinb (zc (peer c)))) $$ Ha
  iintro Ha
  iapply (st_win 𝒱₀ (c : Thread nD τ) none paM f (hoff (zc (peer c))) (off8_opp i h0 c)) $$ Ha
  iintro Ha
  iapply (run_ret c)
  iapply HQ
  isplitl [Hx]; · iexact Hx
  isplitl [Hm]; · iexact Hm
  isplitl [Hp]; · iexact Hp
  isplitl [Hk1]; · iexact Hk1
  isplitl [Hk2]; · iexact Hk2
  iexact Ha

theorem blk5_wp (k0_h5 : k0_cond5 i = 1#1) (z : Fin 2) (ho : k0_off11 i c = hoff z) (X : Vec F S1024x1024 .bf16) (V4 V5 : Vec F S1x1024x1024 .f32) (Y Z : Vec F S512x4 .f32) (f : Vec F S1024x1024 .f32) (Q : PUnit → sProp (MM F)) :
    iprop(iprop(owns (c : Thread nD τ) xfM fullShare X ∗ owns (c : Thread nD τ) a4 fullShare V4 ∗ owns (c : Thread nD τ) a5 fullShare V5 ∗ owns (c : Thread nD τ) cmM fullShare Y ∗ owns (c : Thread nD τ) cpM fullShare Z ∗ owns (c : Thread nD τ) paM fullShare f) ∗ (iprop(owns (c : Thread nD τ) xfM fullShare X ∗ owns (c : Thread nD τ) a4 fullShare V4 ∗ owns (c : Thread nD τ) a5 fullShare V5 ∗ owns (c : Thread nD τ) cmM fullShare Y ∗ owns (c : Thread nD τ) cpM fullShare Z ∗ owns (c : Thread nD τ) paM fullShare (setH z f (k0_pay1 (BitVec.ofNat 32 (i 0).val) lanes (getH z X) V4 V5 Y Z (getH z f)))) -∗ Q ⟨⟩)) ⊢ run c (blk5 c i a4 a5 k0_h5) Q := by
  unfold blk5
  simp only [Prog.lift, Prog.bind_op, Prog.bind_ret, Prog.pure_eq_ret]
  iintro ⟨⟨Hx, H4, H5, Hm, Hp, Ha⟩, HQ⟩
  iapply (ld_at 𝒱₀ (c : Thread nD τ) none xfM fullShare X (hoff z) ho (hinb z)) $$ Hx
  iintro Hx
  iapply (ld_all 𝒱₀ (c : Thread nD τ) none a4 fullShare V4 off0_3) $$ H4
  iintro H4
  iapply (ld_all 𝒱₀ (c : Thread nD τ) none a5 fullShare V5 off0_3) $$ H5
  iintro H5
  iapply (ld_all 𝒱₀ (c : Thread nD τ) none cmM fullShare Y off0_2) $$ Hm
  iintro Hm
  iapply (ld_all 𝒱₀ (c : Thread nD τ) none cpM fullShare Z off0_2) $$ Hp
  iintro Hp
  iapply (ld_at 𝒱₀ (c : Thread nD τ) none paM fullShare f (hoff z) ho (hinb z)) $$ Ha
  iintro Ha
  iapply (ld_at 𝒱₀ (c : Thread nD τ) none paM fullShare f (hoff z) ho (hinb z)) $$ Ha
  iintro Ha
  iapply (st_win 𝒱₀ (c : Thread nD τ) none paM f (hoff z) ho) $$ Ha
  iintro Ha
  iapply (run_ret c)
  iapply HQ
  isplitl [Hx]; · iexact Hx
  isplitl [H4]; · iexact H4
  isplitl [H5]; · iexact H5
  isplitl [Hm]; · iexact Hm
  isplitl [Hp]; · iexact Hp
  iexact Ha

theorem blk6_wp (X : Vec F S1024x1024 .bf16) (V4 V5 : Vec F S1x1024x1024 .f32) (Y : Vec F S1024x4 .f32) (f : Vec F S1024x1024 .f32) (Q : PUnit → sProp (MM F)) :
    iprop(iprop(owns (c : Thread nD τ) xfM fullShare X ∗ owns (c : Thread nD τ) a4 fullShare V4 ∗ owns (c : Thread nD τ) a5 fullShare V5 ∗ owns (c : Thread nD τ) cfM fullShare Y ∗ owns (c : Thread nD τ) paM fullShare f) ∗ (iprop(owns (c : Thread nD τ) xfM fullShare X ∗ owns (c : Thread nD τ) a4 fullShare V4 ∗ owns (c : Thread nD τ) a5 fullShare V5 ∗ owns (c : Thread nD τ) cfM fullShare Y ∗ owns (c : Thread nD τ) paM fullShare (k0_pay2 (BitVec.ofNat 32 (i 0).val) X V4 V5 Y f)) -∗ Q ⟨⟩)) ⊢ run c (blk6 i a4 a5) Q := by
  unfold blk6
  simp only [Prog.lift, Prog.bind_op, Prog.bind_ret, Prog.pure_eq_ret]
  iintro ⟨⟨Hx, H4, H5, Hf, Ha⟩, HQ⟩
  iapply (ld_all 𝒱₀ (c : Thread nD τ) none xfM fullShare X off0_2) $$ Hx
  iintro Hx
  iapply (ld_all 𝒱₀ (c : Thread nD τ) none a4 fullShare V4 off0_3) $$ H4
  iintro H4
  iapply (ld_all 𝒱₀ (c : Thread nD τ) none a5 fullShare V5 off0_3) $$ H5
  iintro H5
  iapply (ld_all 𝒱₀ (c : Thread nD τ) none cfM fullShare Y off0_2) $$ Hf
  iintro Hf
  iapply (ld_all 𝒱₀ (c : Thread nD τ) none paM fullShare f off0_2) $$ Ha
  iintro Ha
  iapply (ld_all 𝒱₀ (c : Thread nD τ) none paM fullShare f off0_2) $$ Ha
  iintro Ha
  iapply (st_all 𝒱₀ (c : Thread nD τ) none paM f off0_2) $$ Ha
  iintro Ha
  iapply (run_ret c)
  iapply HQ
  isplitl [Hx]; · iexact Hx
  isplitl [H4]; · iexact H4
  isplitl [H5]; · iexact H5
  isplitl [Hf]; · iexact Hf
  iexact Ha

theorem blk7_wp (k0_h7 : k0_cond7 i = 1#1) (Q : PUnit → sProp (MM F)) :
    iprop(ctx B κ K ∗ ((∃ W, owes (c : Thread nD τ) (Ow c [8]) W) ∗ tok c 4 ∗ tok c 8 ∗ (∃ X, owns (peer c : Thread nD τ) rbM fullShare X) ∗ (∃ X, owns (c : Thread nD τ) sbM fullShare X) ∗ owns (c : Thread nD τ) paM fullShare (pacc B c 10))
        ∗ ((∃ W, owes (c : Thread nD τ) (Ow c []) W) ∗ crd c 4 ∗ owns (c : Thread nD τ) paM fullShare (pacc B c 10) -∗ Q ⟨⟩)) ⊢ run c (blk7 c i k0_h7) Q := by
  unfold blk7
  simp only [Prog.lift, Prog.bind_op, Prog.bind_ret, Prog.pure_eq_ret]
  iintro ⟨#Hc, ⟨⟨%W, HO⟩, Ht4, Ht8, ⟨%rb0, Hrb⟩, ⟨%sb0, Hsb⟩, Ha⟩, HQ⟩
  iapply (ld_at 𝒱₀ (c : Thread nD τ) none paM fullShare (pacc B c 10) (hoff (zc (peer c))) (off12_h c) (hinb (zc (peer c)))) $$ Ha
  iintro Ha
  iapply (ld_all 𝒱₀ (c : Thread nD τ) none sbM fullShare sb0 off0_2) $$ Hsb
  iintro Hsb
  iapply (st_all 𝒱₀ (c : Thread nD τ) none sbM sb0 off0_2) $$ Hsb
  iintro Hsb
  iapply (send_step B κ K c _ (dev5_eq c) 4 8 rfl rfl rfl [] W (dst := rbM) rfl rfl credit_rb fullShare (sbv B c) (owns (peer c : Thread nD τ) rbM fullShare (sbv B c)) .rfl
      (Entails.of_eq (by unfold pay; rw [peer_peer]))) $$ [Hsb Hrb HO Ht4 Ht8]
  · isplitr; · iexact Hc
    isplitl [Hsb]; · iexact Hsb
    isplitl [Hrb]
    · iapply (update_at (peer c) _ (dev5_eq c)); iapply (owns_writeUpdate (peer c) rbM rb0); iexact Hrb
    isplitl [HO]; · iexact HO
    isplitl [Ht4]; · iexact Ht4
    iexact Ht8
  iintro ⟨Hc4, HO⟩
  iapply (run_ret c)
  iapply HQ
  isplitl [HO]; · iexists W; iexact HO
  isplitl [Hc4]; · iexact Hc4
  iexact Ha

theorem blk8_wp (k0_h8 : k0_cond8 i = 1#1) (Q : PUnit → sProp (MM F)) :
    iprop(ctx B κ K ∗ ((∃ W, owes (c : Thread nD τ) (Ow c []) W) ∗ (pos c 4 ∗ pos c 8) ∗ (crd c 4 ∗ crd c 8) ∗ owns (c : Thread nD τ) paM fullShare (pacc B c 12) ∗ (∃ X, owns (c : Thread nD τ) a6 fullShare X))
        ∗ ((∃ W, owes (c : Thread nD τ) (Ow c []) W) ∗ (zs c 4 ∗ zs c 8) ∗ (∃ X, owns (c : Thread nD τ) sbM fullShare X) ∗ (∃ X, owns (c : Thread nD τ) rbM fullShare X) ∗ owns (c : Thread nD τ) paM fullShare (pacc B c 12) ∗ owns (c : Thread nD τ) a6 fullShare (outv B c) -∗ Q ⟨⟩)) ⊢ run c (blk8 c i a6 k0_h8) Q := by
  unfold blk8
  simp only [Prog.lift, Prog.bind_op, Prog.bind_ret, Prog.pure_eq_ret]
  iintro ⟨#Hc, ⟨⟨%W, HO⟩, ⟨Hp4, Hp8⟩, ⟨Hc4, Hc8⟩, Ha, ⟨%o0, Ho⟩⟩, HQ⟩
  iapply (wait_step B κ K c 4 [] (by decide) W (credit_sb) (wpE_waitDma2_eq (dst := sbM) 𝒱₀ (c : Thread nD τ) none Set.univ)) $$ [HO Hp4 Hc4]
  · isplitr; · iexact Hc
    isplitl [HO]; · iexact HO
    isplitl [Hp4]; · iexact Hp4
    iexact Hc4
  iintro ⟨⟨%W1, HO⟩, Hz4, Hsb⟩
  ihave Hsb := (pay_4 B c) $$ Hsb
  iapply (wait_step B κ K c 8 [] (by decide) W1 (credit_rb) (wpE_waitDma2_eq (dst := rbM) 𝒱₀ (c : Thread nD τ) none Set.univ)) $$ [HO Hp8 Hc8]
  · isplitr; · iexact Hc
    isplitl [HO]; · iexact HO
    isplitl [Hp8]; · iexact Hp8
    iexact Hc8
  iintro ⟨⟨%W2, HO⟩, Hz8, Hrb⟩
  ihave Hrb := (pay_8 B c) $$ Hrb
  iapply (ld_at 𝒱₀ (c : Thread nD τ) none paM fullShare (pacc B c 12) (hoff (zc c)) (off13_h c) (hinb (zc c))) $$ Ha
  iintro Ha
  iapply (ld_all 𝒱₀ (c : Thread nD τ) none rbM fullShare (sbv B (peer c)) off0_2) $$ Hrb
  iintro Hrb
  iapply (ld_all 𝒱₀ (c : Thread nD τ) none a6 fullShare o0 off0_2) $$ Ho
  iintro Ho
  iapply (st_all 𝒱₀ (c : Thread nD τ) none a6 o0 off0_2) $$ Ho
  iintro Ho
  iapply (run_ret c)
  iapply HQ
  isplitl [HO]; · iexists W2; iexact HO
  isplitl [Hz4 Hz8]
  · isplitl [Hz4]; · iexact Hz4
    iexact Hz8
  isplitl [Hsb]; · iexists _; iexact Hsb
  isplitl [Hrb]; · iexists _; iexact Hrb
  isplitl [Ha]; · iexact Ha
  iexact Ho

end Cert.MoE

end
-- ==== Proof.Body.lean ====
/-
# The body at each kind of grid point

Which of its seven blocks the body runs, by the conditions that hold at the point.
-/
module

public import proofs.«01_k».proof.Proof.Middle

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (B : Blocks F) (κ : ℕ) (K : Dev nD × Fin 9 → ℕ) (c : Dev nD) (i : grid0.Coords)
  (a2 : Memref sig .tc .vmem S512x1024 .f32) (h2 : a2.IsWhole) (a3 : Memref sig .tc .vmem S1024x4 .f32) (h3 : a3.IsWhole)
  (a4 : Memref sig .tc .vmem S1x1024x1024 .f32) (h4 : a4.IsWhole) (a5 : Memref sig .tc .vmem S1x1024x1024 .f32) (h5 : a5.IsWhole)
  (a6 : Memref sig .tc .vmem S512x1024 .f32) (h6 : a6.IsWhole)

set_option maxRecDepth 65536
set_option maxHeartbeats 4000000

theorem body_1_3 (q1 : k0_cond1 i = 1#1) (q2 : ¬ k0_cond2 i = 1#1) (q3 : k0_cond3 i = 1#1) (q5 : ¬ k0_cond5 i = 1#1) (q6 : ¬ cond6 i = 1#1) (q7 : ¬ k0_cond7 i = 1#1) (q8 : ¬ k0_cond8 i = 1#1) (Q : PUnit → sProp (MM F)) :
    run c (cc0__body i a2 h2 rM (Memref.isWhole_whole _) a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk1 c i a2 h2 a4 h4 a5 h5 a6 h6 q1) fun _ => run c (blk3 c i a2 h2 rM (Memref.isWhole_whole _) a4 h4 a5 h5 a6 h6 q3) Q := by
  rw [cc0__body_eq_skeleton]
  unfold cc0__body_skel
  rw [k0_part6_eq_skeleton]
  unfold k0_part6_skel run
  rw [← wp_bind]
  unfold blk1 blk3
  simp only [dif_pos q1, dif_neg q2, dif_pos q3, dif_neg q5, dif_neg q6, dif_neg q7, dif_neg q8, Prog.lift, Prog.pure_eq_ret, Prog.bind_op, Prog.bind_ret, bind_assoc, wp_deviceId]

theorem body_3 (q1 : ¬ k0_cond1 i = 1#1) (q2 : ¬ k0_cond2 i = 1#1) (q3 : k0_cond3 i = 1#1) (q5 : ¬ k0_cond5 i = 1#1) (q6 : ¬ cond6 i = 1#1) (q7 : ¬ k0_cond7 i = 1#1) (q8 : ¬ k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk3 c i a2 h2 a3 h3 a4 h4 a5 h5 a6 h6 q3) Q := by
  rw [cc0__body_eq_skeleton]
  unfold cc0__body_skel
  rw [k0_part6_eq_skeleton]
  unfold k0_part6_skel run
  unfold blk3
  simp only [dif_neg q1, dif_neg q2, dif_pos q3, dif_neg q5, dif_neg q6, dif_neg q7, dif_neg q8, Prog.lift, Prog.pure_eq_ret, Prog.bind_op, Prog.bind_ret, bind_assoc, wp_deviceId]

theorem body_2_6 (q1 : ¬ k0_cond1 i = 1#1) (q2 : k0_cond2 i = 1#1) (q3 : ¬ k0_cond3 i = 1#1) (q5 : ¬ k0_cond5 i = 1#1) (q6 : cond6 i = 1#1) (q7 : ¬ k0_cond7 i = 1#1) (q8 : ¬ k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk2 c i a2 h2 a3 h3 a4 h4 a5 h5 a6 h6 q2) fun _ => run c (blk6 i a4 a5) Q := by
  rw [cc0__body_eq_skeleton]
  unfold cc0__body_skel
  rw [k0_part6_eq_skeleton]
  unfold k0_part6_skel run
  rw [← wp_bind]
  unfold blk2 blk6
  simp only [dif_neg q1, dif_pos q2, dif_neg q3, dif_neg q5, dif_pos q6, dif_neg q7, dif_neg q8, Prog.lift, Prog.pure_eq_ret, Prog.bind_op, Prog.bind_ret, bind_assoc, wp_deviceId]

theorem body_6 (q1 : ¬ k0_cond1 i = 1#1) (q2 : ¬ k0_cond2 i = 1#1) (q3 : ¬ k0_cond3 i = 1#1) (q5 : ¬ k0_cond5 i = 1#1) (q6 : cond6 i = 1#1) (q7 : ¬ k0_cond7 i = 1#1) (q8 : ¬ k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk6 i a4 a5) Q := by
  rw [cc0__body_eq_skeleton]
  unfold cc0__body_skel
  rw [k0_part6_eq_skeleton]
  unfold k0_part6_skel run
  unfold blk6
  simp only [dif_neg q1, dif_neg q2, dif_neg q3, dif_neg q5, dif_pos q6, dif_neg q7, dif_neg q8, Prog.lift, Prog.pure_eq_ret, Prog.bind_op, Prog.bind_ret, bind_assoc, wp_deviceId]

theorem body_5 (q1 : ¬ k0_cond1 i = 1#1) (q2 : ¬ k0_cond2 i = 1#1) (q3 : ¬ k0_cond3 i = 1#1) (q5 : k0_cond5 i = 1#1) (q6 : ¬ cond6 i = 1#1) (q7 : ¬ k0_cond7 i = 1#1) (q8 : ¬ k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk5 c i a4 a5 q5) Q := by
  rw [cc0__body_eq_skeleton]
  unfold cc0__body_skel
  rw [k0_part6_eq_skeleton]
  unfold k0_part6_skel run
  unfold blk5
  simp only [dif_neg q1, dif_neg q2, dif_neg q3, dif_pos q5, dif_neg q6, dif_neg q7, dif_neg q8, Prog.lift, Prog.pure_eq_ret, Prog.bind_op, Prog.bind_ret, bind_assoc, wp_deviceId]

theorem body_3_7 (q1 : ¬ k0_cond1 i = 1#1) (q2 : ¬ k0_cond2 i = 1#1) (q3 : k0_cond3 i = 1#1) (q5 : ¬ k0_cond5 i = 1#1) (q6 : ¬ cond6 i = 1#1) (q7 : k0_cond7 i = 1#1) (q8 : ¬ k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk3 c i a2 h2 a3 h3 a4 h4 a5 h5 a6 h6 q3) fun _ => run c (blk7 c i q7) Q := by
  rw [cc0__body_eq_skeleton]
  unfold cc0__body_skel
  rw [k0_part6_eq_skeleton]
  unfold k0_part6_skel run
  rw [← wp_bind]
  unfold blk3 blk7
  simp only [dif_neg q1, dif_neg q2, dif_pos q3, dif_neg q5, dif_neg q6, dif_pos q7, dif_neg q8, Prog.lift, Prog.pure_eq_ret, Prog.bind_op, Prog.bind_ret, bind_assoc, wp_deviceId]

theorem body_5_8 (q1 : ¬ k0_cond1 i = 1#1) (q2 : ¬ k0_cond2 i = 1#1) (q3 : ¬ k0_cond3 i = 1#1) (q5 : k0_cond5 i = 1#1) (q6 : ¬ cond6 i = 1#1) (q7 : ¬ k0_cond7 i = 1#1) (q8 : k0_cond8 i = 1#1) (Q : PUnit → sProp (MM F)) :
    run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q = run c (blk5 c i a4 a5 q5) fun _ => run c (blk8 c i a6 q8) Q := by
  rw [cc0__body_eq_skeleton]
  unfold cc0__body_skel
  rw [k0_part6_eq_skeleton]
  unfold k0_part6_skel run
  rw [← wp_bind]
  unfold blk5 blk8
  simp only [dif_neg q1, dif_neg q2, dif_neg q3, dif_pos q5, dif_neg q6, dif_neg q7, dif_pos q8, Prog.lift, Prog.pure_eq_ret, Prog.bind_op, Prog.bind_ret, bind_assoc, wp_deviceId]

end Cert.MoE

end
-- ==== Proof.AtPoint.lean ====
/-
# The body at each grid point

What a device holds before each of the twelve points, and the body's step from one to the next.
-/
module

public import proofs.«01_k».proof.Proof.Body

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (B : Blocks F) (c : Dev nD)

/-- The weight caches, the blocks below `n` in place. -/
def caches (n : ℕ) : sProp (MM F) :=
  iprop((∃ f, ⌜∀ j : Fin 2, j.val < n → getC j f = k0_pay10 (B.w1 c j.val)⌝ ∗ owns (c : Thread nD τ) k1M fullShare f)
    ∗ (∃ f, ⌜∀ j : Fin 2, j.val < n → getR j f = k0_pay11 (B.w2 c j.val)⌝ ∗ owns (c : Thread nD τ) k2M fullShare f))

/-- What the launch gives a device besides its buffers. -/
def start : sProp (MM F) :=
  iprop((∃ κ K, ctx B κ K) ∗ (pos c 0 ∗ pos c 1 ∗ pos c 5 ∗ pos c 2 ∗ pos c 6 ∗ pos c 3 ∗ pos c 7 ∗ pos c 4 ∗ pos c 8) ∗ (tok c 0 ∗ tok c 1 ∗ tok c 5 ∗ tok c 2 ∗ tok c 6 ∗ tok c 3 ∗ tok c 7 ∗ tok c 4 ∗ tok c 8) ∗ (crd c 0 ∗ crd c 5 ∗ crd c 6 ∗ crd c 7 ∗ crd c 8))

/-- The scratch buffers, with contents of any kind. -/
def scratch : sProp (MM F) :=
  iprop((∃ X, owns (c : Thread nD τ) xfM fullShare X) ∗ (∃ X, owns (c : Thread nD τ) roM fullShare X) ∗ (∃ X, owns (c : Thread nD τ) cmM fullShare X) ∗ (∃ X, owns (c : Thread nD τ) csM fullShare X) ∗ (∃ X, owns (c : Thread nD τ) cpM fullShare X) ∗ (∃ X, owns (c : Thread nD τ) cfM fullShare X) ∗ (∃ X, owns (c : Thread nD τ) paM fullShare X) ∗ (∃ X, owns (c : Thread nD τ) sbM fullShare X) ∗ (∃ X, owns (c : Thread nD τ) rbM fullShare X) ∗ (∃ X, owns (c : Thread nD τ) k1M fullShare X) ∗ (∃ X, owns (c : Thread nD τ) k2M fullShare X))

/-- Before points 1 and 2: the halves of the tokens and the coefficients are under way. -/
def mid (n : ℕ) : sProp (MM F) :=
  iprop((∃ κ K, ctx B κ K) ∗ (pos c 2 ∗ pos c 6 ∗ pos c 3 ∗ pos c 7 ∗ pos c 4 ∗ pos c 8) ∗ (crd c 2 ∗ crd c 6 ∗ crd c 3 ∗ crd c 7 ∗ crd c 8) ∗ (tok c 4 ∗ tok c 8) ∗ (zs c 0 ∗ zs c 1 ∗ zs c 5) ∗ owns (c : Thread nD τ) (xfH (zc c)) fullShare.right (xb B c) ∗ cpW c fullShare.left (cs B (peer c)) ∅ ∗ (∃ X, owns (c : Thread nD τ) roM fullShare X) ∗ owns (c : Thread nD τ) cmM fullShare (cm B c) ∗ (∃ X, owns (c : Thread nD τ) cfM fullShare X) ∗ (∃ X, owns (peer c : Thread nD τ) rbM fullShare X) ∗ (∃ X, owns (c : Thread nD τ) sbM fullShare X) ∗ caches B c n ∗ owns (c : Thread nD τ) paM fullShare (pacc B c n))

/-- Before points 3 to 9: everything the pair exchanges at the start has arrived. -/
def late (n : ℕ) : sProp (MM F) :=
  iprop((∃ κ K, ctx B κ K) ∗ (pos c 4 ∗ pos c 8) ∗ crd c 8 ∗ (tok c 4 ∗ tok c 8) ∗ (zs c 0 ∗ zs c 1 ∗ zs c 5 ∗ zs c 2 ∗ zs c 6 ∗ zs c 3 ∗ zs c 7) ∗ owns (c : Thread nD τ) xfM fullShare (xf B c) ∗ owns (c : Thread nD τ) cpM fullShare (cs B (peer c)) ∗ (∃ X, owns (c : Thread nD τ) csM fullShare X) ∗ (∃ X, owns (c : Thread nD τ) roM fullShare X) ∗ owns (c : Thread nD τ) cmM fullShare (cm B c) ∗ owns (c : Thread nD τ) cfM fullShare (cf B c) ∗ (∃ X, owns (peer c : Thread nD τ) rbM fullShare X) ∗ (∃ X, owns (c : Thread nD τ) sbM fullShare X) ∗ caches B c 2 ∗ owns (c : Thread nD τ) paM fullShare (pacc B c n))

/-- Before points 10 and 11: the partial result is under way. -/
def fly (n : ℕ) : sProp (MM F) :=
  iprop((∃ κ K, ctx B κ K) ∗ (pos c 4 ∗ pos c 8) ∗ (crd c 4 ∗ crd c 8) ∗ (zs c 0 ∗ zs c 1 ∗ zs c 5 ∗ zs c 2 ∗ zs c 6 ∗ zs c 3 ∗ zs c 7) ∗ owns (c : Thread nD τ) xfM fullShare (xf B c) ∗ owns (c : Thread nD τ) cpM fullShare (cs B (peer c)) ∗ (∃ X, owns (c : Thread nD τ) csM fullShare X) ∗ (∃ X, owns (c : Thread nD τ) roM fullShare X) ∗ owns (c : Thread nD τ) cmM fullShare (cm B c) ∗ owns (c : Thread nD τ) cfM fullShare (cf B c) ∗ caches B c 2 ∗ owns (c : Thread nD τ) paM fullShare (pacc B c n))

/-- After the last point: every semaphore is at zero and every buffer is back. -/
def done : sProp (MM F) :=
  iprop((zs c 0 ∗ zs c 1 ∗ zs c 2 ∗ zs c 3 ∗ zs c 4 ∗ zs c 5 ∗ zs c 6 ∗ zs c 7 ∗ zs c 8) ∗ scratch c)
end

theorem k1_grow (B : Blocks F) (c : Dev nD) (j : Fin 2) {f : Vec F S1024x2048 .bf16} (hj : j = 0) :
    ∀ i : Fin 2, i.val < 1 → getC i (setC j f (k0_pay10 (B.w1 c j.val))) = k0_pay10 (B.w1 c i.val) := fun i hi => by
  have : i = j := by subst hj; exact Fin.ext (by simpa using hi)
  subst this; exact getC_setC _ _ _

theorem k2_grow (B : Blocks F) (c : Dev nD) (j : Fin 2) {f : Vec F S2048x1024 .bf16} (hj : j = 0) :
    ∀ i : Fin 2, i.val < 1 → getR i (setR j f (k0_pay11 (B.w2 c j.val))) = k0_pay11 (B.w2 c i.val) := fun i hi => by
  have : i = j := by subst hj; exact Fin.ext (by simpa using hi)
  subst this; exact getR_setR _ _ _

theorem k1_next (B : Blocks F) (c : Dev nD) {f : Vec F S1024x2048 .bf16} (h : ∀ j : Fin 2, j.val < 1 → getC j f = k0_pay10 (B.w1 c j.val)) :
    ∀ i : Fin 2, i.val < 2 → getC i (setC 1 f (k0_pay10 (B.w1 c 1))) = k0_pay10 (B.w1 c i.val) := fun i _ => by
  match i with
  | 0 => exact (getC_setC_ne (by decide) _ _).trans (h 0 (by decide))
  | 1 => exact getC_setC _ _ _

theorem k2_next (B : Blocks F) (c : Dev nD) {f : Vec F S2048x1024 .bf16} (h : ∀ j : Fin 2, j.val < 1 → getR j f = k0_pay11 (B.w2 c j.val)) :
    ∀ i : Fin 2, i.val < 2 → getR i (setR 1 f (k0_pay11 (B.w2 c 1))) = k0_pay11 (B.w2 c i.val) := fun i _ => by
  match i with
  | 0 => exact (getR_setR_ne (by decide) _ _).trans (h 0 (by decide))
  | 1 => exact getR_setR _ _ _

variable (B : Blocks F) (κ : ℕ) (K : Dev nD × Fin 9 → ℕ) (c : Dev nD) (i : grid0.Coords)
  (a2 : Memref sig .tc .vmem S512x1024 .f32) (h2 : a2.IsWhole) (a3 : Memref sig .tc .vmem S1024x4 .f32) (h3 : a3.IsWhole)
  (a4 : Memref sig .tc .vmem S1x1024x1024 .f32) (h4 : a4.IsWhole) (a5 : Memref sig .tc .vmem S1x1024x1024 .f32) (h5 : a5.IsWhole)
  (a6 : Memref sig .tc .vmem S512x1024 .f32) (h6 : a6.IsWhole)

set_option maxRecDepth 16384
set_option maxHeartbeats 2000000

theorem pt0 (q1 : k0_cond1 i = 1#1) (q2 : ¬ k0_cond2 i = 1#1) (q3 : k0_cond3 i = 1#1) (q5 : ¬ k0_cond5 i = 1#1) (q6 : ¬ cond6 i = 1#1) (q7 : ¬ k0_cond7 i = 1#1) (q8 : ¬ k0_cond8 i = 1#1) (q4 : k0_cond4 i = 1#1) (h0 : (i 0).val = 0) (hj : (i 1).val = 0) (Q : PUnit → sProp (MM F)) :
    iprop((start B c ∗ scratch c ∗ (∃ W, owes (c : Thread nD τ) (Ow c [0, 5, 6, 7, 8]) W) ∗ owns (c : Thread nD τ) a2 fullShare (B.x c) ∗ owns (c : Thread nD τ) rM fullShare (B.r c) ∗ owns (c : Thread nD τ) a4 fullShare (B.w1 c 0) ∗ owns (c : Thread nD τ) a5 fullShare (B.w2 c 0)) ∗ ((mid B c 1 ∗ (∃ W, owes (c : Thread nD τ) (Ow c [8]) W) ∗ owns (c : Thread nD τ) a2 fullShare (B.x c) ∗ owns (c : Thread nD τ) rM fullShare (B.r c) ∗ owns (c : Thread nD τ) a4 fullShare (B.w1 c 0) ∗ owns (c : Thread nD τ) a5 fullShare (B.w2 c 0)) -∗ Q ⟨⟩)) ⊢ run c (cc0__body i a2 h2 rM (Memref.isWhole_whole _) a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_1_3 c i a2 h2 a4 h4 a5 h5 a6 h6 q1 q2 q3 q5 q6 q7 q8]
  unfold start scratch
  iintro ⟨⟨⟨⟨%κ, %K, #Hc⟩, ⟨Hp0, Hp1, Hp5, Hp2, Hp6, Hp3, Hp7, Hp4, Hp8⟩, ⟨Ht0, Ht1, Ht5, Ht2, Ht6, Ht3, Ht7, Ht4, Ht8⟩, ⟨Hc0, Hc5, Hc6, Hc7, Hc8⟩⟩, ⟨⟨%hxf0, Hxf⟩, ⟨%hro0, Hro⟩, ⟨%hcm0, Hcm⟩, ⟨%hcs0, Hcs⟩, ⟨%hcp0, Hcp⟩, ⟨%hcf0, Hcf⟩, ⟨%hpa0, Hpa⟩, ⟨%hsb0, Hsb⟩, ⟨%hrb0, Hrb⟩, ⟨%hk10, Hk1⟩, ⟨%hk20, Hk2⟩⟩, ⟨%W, HO⟩, H2, Hr, H4, H5⟩, HQ⟩
  iapply (blk1_wp B κ K c i a2 h2 a4 h4 a5 h5 a6 h6 q1)
  isplitr; · iexact Hc
  isplitl [HO Hp0 Hp1 Hp5 Hc0 Hc5 Ht0 Ht1 Ht5 Ht2 Ht6 Ht3 Ht7 H2 Hr Hxf Hro Hcm Hcs Hcp Hpa Hrb]
  · unfold pre1
    isplitl [HO]; · iexists W; iexact HO
    isplitl [Hp0 Hp1 Hp5]
    · isplitl [Hp0]
      · iexact Hp0
      isplitl [Hp1]
      · iexact Hp1
      iexact Hp5
    isplitl [Hc0 Hc5]
    · isplitl [Hc0]
      · iexact Hc0
      iexact Hc5
    isplitl [Ht0 Ht1 Ht5 Ht2 Ht6 Ht3 Ht7]
    · isplitl [Ht0]
      · iexact Ht0
      isplitl [Ht1]
      · iexact Ht1
      isplitl [Ht5]
      · iexact Ht5
      isplitl [Ht2]
      · iexact Ht2
      isplitl [Ht6]
      · iexact Ht6
      isplitl [Ht3]
      · iexact Ht3
      iexact Ht7
    isplitl [H2]
    · iexact H2
    isplitl [Hr]
    · iexact Hr
    isplitl [Hxf]
    · iexists _; iexact Hxf
    isplitl [Hro]
    · iexists _; iexact Hro
    isplitl [Hcm]
    · iexists _; iexact Hcm
    isplitl [Hcs]
    · iexists _; iexact Hcs
    isplitl [Hcp]
    · iexists _; iexact Hcp
    isplitl [Hpa]
    · iexists _; iexact Hpa
    iexists _; iexact Hrb

  unfold post1
  iintro ⟨HO, ⟨Hz0, Hz1, Hz5⟩, ⟨Hc2, Hc3⟩, H2, Hr, Hxr, Hro, Hm, Hpl, Hpa, HrbP⟩
  iapply (blk3_first B κ K c i a2 h2 rM (Memref.isWhole_whole _) a4 h4 a5 h5 a6 h6 q3 q4 0 h0 hj (B.w1 c 0) (B.w2 c 0) (xb B c) (cm B c) (cs B (peer c)) (cm B c) k0_pay6 hk10 hk20)
  isplitr; · iexact Hc
  isplitl [H4 H5 Hxr Hm Hpl Hk1 Hk2 Hpa]
  · isplitl [H4]
    · iexact H4
    isplitl [H5]
    · iexact H5
    isplitl [Hxr]
    · iexact Hxr
    isplitl [Hm]
    · iexact Hm
    isplitl [Hpl]
    · iexact Hpl
    isplitl [Hk1]
    · iexact Hk1
    isplitl [Hk2]
    · iexact Hk2
    iexact Hpa

  iintro ⟨H4, H5, Hxr, Hm, Hpl, Hk1, Hk2, Ha⟩
  iapply HQ
  unfold mid
  isplitl [Hp2 Hp6 Hp3 Hp7 Hp4 Hp8 Hc2 Hc6 Hc3 Hc7 Hc8 Ht4 Ht8 Hz0 Hz1 Hz5 Hxr Hpl Hro Hm Hcf HrbP Hsb Hk1 Hk2 Ha]
  · isplitr
    · iexists κ, K; iexact Hc
    isplitl [Hp2 Hp6 Hp3 Hp7 Hp4 Hp8]
    · isplitl [Hp2]
      · iexact Hp2
      isplitl [Hp6]
      · iexact Hp6
      isplitl [Hp3]
      · iexact Hp3
      isplitl [Hp7]
      · iexact Hp7
      isplitl [Hp4]
      · iexact Hp4
      iexact Hp8
    isplitl [Hc2 Hc6 Hc3 Hc7 Hc8]
    · isplitl [Hc2]
      · iexact Hc2
      isplitl [Hc6]
      · iexact Hc6
      isplitl [Hc3]
      · iexact Hc3
      isplitl [Hc7]
      · iexact Hc7
      iexact Hc8
    isplitl [Ht4 Ht8]
    · isplitl [Ht4]
      · iexact Ht4
      iexact Ht8
    isplitl [Hz0 Hz1 Hz5]
    · isplitl [Hz0]
      · iexact Hz0
      isplitl [Hz1]
      · iexact Hz1
      iexact Hz5
    isplitl [Hxr]
    · iexact Hxr
    isplitl [Hpl]
    · iexact Hpl
    isplitl [Hro]
    · iexact Hro
    isplitl [Hm]
    · iexact Hm
    isplitl [Hcf]
    · iexists _; iexact Hcf
    isplitl [HrbP]
    · iexact HrbP
    isplitl [Hsb]
    · iexists _; iexact Hsb
    isplitl [Hk1 Hk2]
    · unfold caches
      isplitl [Hk1]
      · iexists _; isplitr; · ipureintro; exact k1_grow B c 0 (f := hk10) rfl
        iexact Hk1
      iexists _; isplitr; · ipureintro; exact k2_grow B c 0 (f := hk20) rfl
      iexact Hk2
    iexact Ha
  isplitl [HO]
  · iexact HO
  isplitl [H2]
  · iexact H2
  isplitl [Hr]
  · iexact Hr
  isplitl [H4]
  · iexact H4
  iexact H5

theorem pt1 (q1 : ¬ k0_cond1 i = 1#1) (q2 : ¬ k0_cond2 i = 1#1) (q3 : k0_cond3 i = 1#1) (q5 : ¬ k0_cond5 i = 1#1) (q6 : ¬ cond6 i = 1#1) (q7 : ¬ k0_cond7 i = 1#1) (q8 : ¬ k0_cond8 i = 1#1) (q4 : k0_cond4 i = 1#1) (h0 : (i 0).val = 0) (hj : (i 1).val = 1) (Q : PUnit → sProp (MM F)) :
    iprop((mid B c 1 ∗ owns (c : Thread nD τ) a4 fullShare (B.w1 c 1) ∗ owns (c : Thread nD τ) a5 fullShare (B.w2 c 1)) ∗ ((mid B c 2 ∗ owns (c : Thread nD τ) a4 fullShare (B.w1 c 1) ∗ owns (c : Thread nD τ) a5 fullShare (B.w2 c 1)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_3 c i a2 h2 a3 h3 a4 h4 a5 h5 a6 h6 q1 q2 q3 q5 q6 q7 q8]
  unfold mid
  iintro ⟨⟨⟨⟨%κ, %K, #Hc⟩, ⟨Hp2, Hp6, Hp3, Hp7, Hp4, Hp8⟩, ⟨Hc2, Hc6, Hc3, Hc7, Hc8⟩, ⟨Ht4, Ht8⟩, ⟨Hz0, Hz1, Hz5⟩, Hxr, Hpl, ⟨%hro0, Hro⟩, Hm, ⟨%hcf0, Hcf⟩, ⟨%hrb0, Hrb⟩, ⟨%hsb0, Hsb⟩, Hk, Ha⟩, H4, H5⟩, HQ⟩
  unfold caches
  icases Hk with ⟨⟨%f1, %e1, Hk1⟩, ⟨%f2, %e2, Hk2⟩⟩
  iapply (blk3_first B κ K c i a2 h2 a3 h3 a4 h4 a5 h5 a6 h6 q3 q4 1 h0 hj (B.w1 c 1) (B.w2 c 1) (xb B c) (cm B c) (cs B (peer c)) (cm B c) (pacc B c 1) f1 f2)
  isplitr; · iexact Hc
  isplitl [H4 H5 Hxr Hm Hpl Hk1 Hk2 Ha]
  · isplitl [H4]
    · iexact H4
    isplitl [H5]
    · iexact H5
    isplitl [Hxr]
    · iexact Hxr
    isplitl [Hm]
    · iexact Hm
    isplitl [Hpl]
    · iexact Hpl
    isplitl [Hk1]
    · iexact Hk1
    isplitl [Hk2]
    · iexact Hk2
    iexact Ha

  iintro ⟨H4, H5, Hxr, Hm, Hpl, Hk1, Hk2, Ha⟩
  iapply HQ
  isplitl [Hp2 Hp6 Hp3 Hp7 Hp4 Hp8 Hc2 Hc6 Hc3 Hc7 Hc8 Ht4 Ht8 Hz0 Hz1 Hz5 Hxr Hpl Hro Hm Hcf Hrb Hsb Hk1 Hk2 Ha]
  · isplitr
    · iexists κ, K; iexact Hc
    isplitl [Hp2 Hp6 Hp3 Hp7 Hp4 Hp8]
    · isplitl [Hp2]
      · iexact Hp2
      isplitl [Hp6]
      · iexact Hp6
      isplitl [Hp3]
      · iexact Hp3
      isplitl [Hp7]
      · iexact Hp7
      isplitl [Hp4]
      · iexact Hp4
      iexact Hp8
    isplitl [Hc2 Hc6 Hc3 Hc7 Hc8]
    · isplitl [Hc2]
      · iexact Hc2
      isplitl [Hc6]
      · iexact Hc6
      isplitl [Hc3]
      · iexact Hc3
      isplitl [Hc7]
      · iexact Hc7
      iexact Hc8
    isplitl [Ht4 Ht8]
    · isplitl [Ht4]
      · iexact Ht4
      iexact Ht8
    isplitl [Hz0 Hz1 Hz5]
    · isplitl [Hz0]
      · iexact Hz0
      isplitl [Hz1]
      · iexact Hz1
      iexact Hz5
    isplitl [Hxr]
    · iexact Hxr
    isplitl [Hpl]
    · iexact Hpl
    isplitl [Hro]
    · iexists _; iexact Hro
    isplitl [Hm]
    · iexact Hm
    isplitl [Hcf]
    · iexists _; iexact Hcf
    isplitl [Hrb]
    · iexists _; iexact Hrb
    isplitl [Hsb]
    · iexists _; iexact Hsb
    isplitl [Hk1 Hk2]
    · isplitl [Hk1]
      · iexists _; isplitr; · ipureintro; exact k1_next B c e1
        iexact Hk1
      iexists _; isplitr; · ipureintro; exact k2_next B c e2
      iexact Hk2
    iexact Ha
  isplitl [H4]
  · iexact H4
  iexact H5

theorem pt2 (q1 : ¬ k0_cond1 i = 1#1) (q2 : k0_cond2 i = 1#1) (q3 : ¬ k0_cond3 i = 1#1) (q5 : ¬ k0_cond5 i = 1#1) (q6 : cond6 i = 1#1) (q7 : ¬ k0_cond7 i = 1#1) (q8 : ¬ k0_cond8 i = 1#1) (h0 : (i 0).val = 1) (Q : PUnit → sProp (MM F)) :
    iprop((mid B c 2 ∗ (∃ W, owes (c : Thread nD τ) (Ow c [8]) W) ∗ owns (c : Thread nD τ) a4 fullShare (B.w1 c 2) ∗ owns (c : Thread nD τ) a5 fullShare (B.w2 c 2)) ∗ ((late B c 3 ∗ (∃ W, owes (c : Thread nD τ) (Ow c [8]) W) ∗ owns (c : Thread nD τ) a4 fullShare (B.w1 c 2) ∗ owns (c : Thread nD τ) a5 fullShare (B.w2 c 2)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_2_6 c i a2 h2 a3 h3 a4 h4 a5 h5 a6 h6 q1 q2 q3 q5 q6 q7 q8]
  unfold mid
  iintro ⟨⟨⟨⟨%κ, %K, #Hc⟩, ⟨Hp2, Hp6, Hp3, Hp7, Hp4, Hp8⟩, ⟨Hc2, Hc6, Hc3, Hc7, Hc8⟩, ⟨Ht4, Ht8⟩, ⟨Hz0, Hz1, Hz5⟩, Hxr, Hpl, ⟨%hro0, Hro⟩, Hm, ⟨%hcf0, Hcf⟩, ⟨%hrb0, Hrb⟩, ⟨%hsb0, Hsb⟩, Hk, Ha⟩, HO, H4, H5⟩, HQ⟩
  iapply (blk2_wp B κ K c i a2 h2 a3 h3 a4 h4 a5 h5 a6 h6 q2)
  isplitr; · iexact Hc
  isplitl [HO Hp2 Hp6 Hp3 Hp7 Hc2 Hc6 Hc3 Hc7 Hxr Hpl Hm Hcf]
  · isplitl [HO]
    · iexact HO
    isplitl [Hp2 Hp6 Hp3 Hp7]
    · isplitl [Hp2]
      · iexact Hp2
      isplitl [Hp6]
      · iexact Hp6
      isplitl [Hp3]
      · iexact Hp3
      iexact Hp7
    isplitl [Hc2 Hc6 Hc3 Hc7]
    · isplitl [Hc2]
      · iexact Hc2
      isplitl [Hc6]
      · iexact Hc6
      isplitl [Hc3]
      · iexact Hc3
      iexact Hc7
    isplitl [Hxr]
    · iexact Hxr
    isplitl [Hpl]
    · iexact Hpl
    isplitl [Hm]
    · iexact Hm
    iexists _; iexact Hcf
  iintro ⟨HO, ⟨Hz2, Hz6, Hz3, Hz7⟩, Hx, Hp, ⟨%cs0, Hcs⟩, Hm, Hf⟩
  iapply (blk6_wp c i a4 a5 (xf B c) (B.w1 c 2) (B.w2 c 2) (cf B c) (pacc B c 2))
  isplitl [Hx H4 H5 Hf Ha]
  · isplitl [Hx]
    · iexact Hx
    isplitl [H4]
    · iexact H4
    isplitl [H5]
    · iexact H5
    isplitl [Hf]
    · iexact Hf
    iexact Ha
  rw [h0]
  iintro ⟨Hx, H4, H5, Hf, Ha⟩
  iapply HQ
  unfold late
  isplitl [Hp4 Hp8 Hc8 Ht4 Ht8 Hz0 Hz1 Hz5 Hz2 Hz6 Hz3 Hz7 Hx Hp Hcs Hro Hm Hf Hrb Hsb Hk Ha]
  · isplitr
    · iexists κ, K; iexact Hc
    isplitl [Hp4 Hp8]
    · isplitl [Hp4]
      · iexact Hp4
      iexact Hp8
    isplitl [Hc8]
    · iexact Hc8
    isplitl [Ht4 Ht8]
    · isplitl [Ht4]
      · iexact Ht4
      iexact Ht8
    isplitl [Hz0 Hz1 Hz5 Hz2 Hz6 Hz3 Hz7]
    · isplitl [Hz0]
      · iexact Hz0
      isplitl [Hz1]
      · iexact Hz1
      isplitl [Hz5]
      · iexact Hz5
      isplitl [Hz2]
      · iexact Hz2
      isplitl [Hz6]
      · iexact Hz6
      isplitl [Hz3]
      · iexact Hz3
      iexact Hz7
    isplitl [Hx]
    · iexact Hx
    isplitl [Hp]
    · iexact Hp
    isplitl [Hcs]
    · iexists _; iexact Hcs
    isplitl [Hro]
    · iexists _; iexact Hro
    isplitl [Hm]
    · iexact Hm
    isplitl [Hf]
    · iexact Hf
    isplitl [Hrb]
    · iexists _; iexact Hrb
    isplitl [Hsb]
    · iexists _; iexact Hsb
    isplitl [Hk]
    · iexact Hk
    iexact Ha
  isplitl [HO]
  · iexact HO
  isplitl [H4]
  · iexact H4
  iexact H5

theorem pt_both (q1 : ¬ k0_cond1 i = 1#1) (q2 : ¬ k0_cond2 i = 1#1) (q3 : ¬ k0_cond3 i = 1#1) (q5 : ¬ k0_cond5 i = 1#1) (q6 : cond6 i = 1#1) (q7 : ¬ k0_cond7 i = 1#1) (q8 : ¬ k0_cond8 i = 1#1) (n : ℕ) (hs : k0_pay2 (BitVec.ofNat 32 (i 0).val) (xf B c) (B.w1 c n) (B.w2 c n) (cf B c) (pacc B c n) = pacc B c (n + 1)) (Q : PUnit → sProp (MM F)) :
    iprop((late B c n ∗ owns (c : Thread nD τ) a4 fullShare (B.w1 c n) ∗ owns (c : Thread nD τ) a5 fullShare (B.w2 c n)) ∗ ((late B c (n + 1) ∗ owns (c : Thread nD τ) a4 fullShare (B.w1 c n) ∗ owns (c : Thread nD τ) a5 fullShare (B.w2 c n)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_6 c i a2 h2 a3 h3 a4 h4 a5 h5 a6 h6 q1 q2 q3 q5 q6 q7 q8]
  unfold late
  iintro ⟨⟨⟨⟨%κ, %K, #Hc⟩, ⟨Hp4, Hp8⟩, Hc8, ⟨Ht4, Ht8⟩, ⟨Hz0, Hz1, Hz5, Hz2, Hz6, Hz3, Hz7⟩, Hx, Hp, ⟨%hcs0, Hcs⟩, ⟨%hro0, Hro⟩, Hm, Hf, ⟨%hrb0, Hrb⟩, ⟨%hsb0, Hsb⟩, Hk, Ha⟩, H4, H5⟩, HQ⟩
  iapply (blk6_wp c i a4 a5 (xf B c) (B.w1 c n) (B.w2 c n) (cf B c) (pacc B c n))
  isplitl [Hx H4 H5 Hf Ha]
  · isplitl [Hx]
    · iexact Hx
    isplitl [H4]
    · iexact H4
    isplitl [H5]
    · iexact H5
    isplitl [Hf]
    · iexact Hf
    iexact Ha
  rw [hs]
  iintro ⟨Hx, H4, H5, Hf, Ha⟩
  iapply HQ
  isplitl [Hp4 Hp8 Hc8 Ht4 Ht8 Hz0 Hz1 Hz5 Hz2 Hz6 Hz3 Hz7 Hx Hp Hcs Hro Hm Hf Hrb Hsb Hk Ha]
  · isplitr
    · iexists κ, K; iexact Hc
    isplitl [Hp4 Hp8]
    · isplitl [Hp4]
      · iexact Hp4
      iexact Hp8
    isplitl [Hc8]
    · iexact Hc8
    isplitl [Ht4 Ht8]
    · isplitl [Ht4]
      · iexact Ht4
      iexact Ht8
    isplitl [Hz0 Hz1 Hz5 Hz2 Hz6 Hz3 Hz7]
    · isplitl [Hz0]
      · iexact Hz0
      isplitl [Hz1]
      · iexact Hz1
      isplitl [Hz5]
      · iexact Hz5
      isplitl [Hz2]
      · iexact Hz2
      isplitl [Hz6]
      · iexact Hz6
      isplitl [Hz3]
      · iexact Hz3
      iexact Hz7
    isplitl [Hx]
    · iexact Hx
    isplitl [Hp]
    · iexact Hp
    isplitl [Hcs]
    · iexists _; iexact Hcs
    isplitl [Hro]
    · iexists _; iexact Hro
    isplitl [Hm]
    · iexact Hm
    isplitl [Hf]
    · iexact Hf
    isplitl [Hrb]
    · iexists _; iexact Hrb
    isplitl [Hsb]
    · iexists _; iexact Hsb
    isplitl [Hk]
    · iexact Hk
    iexact Ha
  isplitl [H4]
  · iexact H4
  iexact H5

theorem pt_half (q1 : ¬ k0_cond1 i = 1#1) (q2 : ¬ k0_cond2 i = 1#1) (q3 : ¬ k0_cond3 i = 1#1) (q5 : k0_cond5 i = 1#1) (q6 : ¬ cond6 i = 1#1) (q7 : ¬ k0_cond7 i = 1#1) (q8 : ¬ k0_cond8 i = 1#1) (n : ℕ) (z : Fin 2) (ho : k0_off11 i c = hoff z) (hs : setH z (pacc B c n) (k0_pay1 (BitVec.ofNat 32 (i 0).val) lanes (getH z (xf B c)) (B.w1 c n) (B.w2 c n) (cm B c) (cs B (peer c)) (getH z (pacc B c n))) = pacc B c (n + 1)) (Q : PUnit → sProp (MM F)) :
    iprop((late B c n ∗ owns (c : Thread nD τ) a4 fullShare (B.w1 c n) ∗ owns (c : Thread nD τ) a5 fullShare (B.w2 c n)) ∗ ((late B c (n + 1) ∗ owns (c : Thread nD τ) a4 fullShare (B.w1 c n) ∗ owns (c : Thread nD τ) a5 fullShare (B.w2 c n)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_5 c i a2 h2 a3 h3 a4 h4 a5 h5 a6 h6 q1 q2 q3 q5 q6 q7 q8]
  unfold late
  iintro ⟨⟨⟨⟨%κ, %K, #Hc⟩, ⟨Hp4, Hp8⟩, Hc8, ⟨Ht4, Ht8⟩, ⟨Hz0, Hz1, Hz5, Hz2, Hz6, Hz3, Hz7⟩, Hx, Hp, ⟨%hcs0, Hcs⟩, ⟨%hro0, Hro⟩, Hm, Hf, ⟨%hrb0, Hrb⟩, ⟨%hsb0, Hsb⟩, Hk, Ha⟩, H4, H5⟩, HQ⟩
  iapply (blk5_wp c i a4 a5 q5 z ho (xf B c) (B.w1 c n) (B.w2 c n) (cm B c) (cs B (peer c)) (pacc B c n))
  isplitl [Hx H4 H5 Hm Hp Ha]
  · isplitl [Hx]
    · iexact Hx
    isplitl [H4]
    · iexact H4
    isplitl [H5]
    · iexact H5
    isplitl [Hm]
    · iexact Hm
    isplitl [Hp]
    · iexact Hp
    iexact Ha
  rw [hs]
  iintro ⟨Hx, H4, H5, Hm, Hp, Ha⟩
  iapply HQ
  isplitl [Hp4 Hp8 Hc8 Ht4 Ht8 Hz0 Hz1 Hz5 Hz2 Hz6 Hz3 Hz7 Hx Hp Hcs Hro Hm Hf Hrb Hsb Hk Ha]
  · isplitr
    · iexists κ, K; iexact Hc
    isplitl [Hp4 Hp8]
    · isplitl [Hp4]
      · iexact Hp4
      iexact Hp8
    isplitl [Hc8]
    · iexact Hc8
    isplitl [Ht4 Ht8]
    · isplitl [Ht4]
      · iexact Ht4
      iexact Ht8
    isplitl [Hz0 Hz1 Hz5 Hz2 Hz6 Hz3 Hz7]
    · isplitl [Hz0]
      · iexact Hz0
      isplitl [Hz1]
      · iexact Hz1
      isplitl [Hz5]
      · iexact Hz5
      isplitl [Hz2]
      · iexact Hz2
      isplitl [Hz6]
      · iexact Hz6
      isplitl [Hz3]
      · iexact Hz3
      iexact Hz7
    isplitl [Hx]
    · iexact Hx
    isplitl [Hp]
    · iexact Hp
    isplitl [Hcs]
    · iexists _; iexact Hcs
    isplitl [Hro]
    · iexists _; iexact Hro
    isplitl [Hm]
    · iexact Hm
    isplitl [Hf]
    · iexact Hf
    isplitl [Hrb]
    · iexists _; iexact Hrb
    isplitl [Hsb]
    · iexists _; iexact Hsb
    isplitl [Hk]
    · iexact Hk
    iexact Ha
  isplitl [H4]
  · iexact H4
  iexact H5

theorem pt10 (q1 : ¬ k0_cond1 i = 1#1) (q2 : ¬ k0_cond2 i = 1#1) (q3 : ¬ k0_cond3 i = 1#1) (q5 : k0_cond5 i = 1#1) (q6 : ¬ cond6 i = 1#1) (q7 : ¬ k0_cond7 i = 1#1) (q8 : ¬ k0_cond8 i = 1#1) (n : ℕ) (z : Fin 2) (ho : k0_off11 i c = hoff z) (hs : setH z (pacc B c n) (k0_pay1 (BitVec.ofNat 32 (i 0).val) lanes (getH z (xf B c)) (B.w1 c n) (B.w2 c n) (cm B c) (cs B (peer c)) (getH z (pacc B c n))) = pacc B c (n + 1)) (Q : PUnit → sProp (MM F)) :
    iprop((fly B c n ∗ owns (c : Thread nD τ) a4 fullShare (B.w1 c n) ∗ owns (c : Thread nD τ) a5 fullShare (B.w2 c n)) ∗ ((fly B c (n + 1) ∗ owns (c : Thread nD τ) a4 fullShare (B.w1 c n) ∗ owns (c : Thread nD τ) a5 fullShare (B.w2 c n)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_5 c i a2 h2 a3 h3 a4 h4 a5 h5 a6 h6 q1 q2 q3 q5 q6 q7 q8]
  unfold fly
  iintro ⟨⟨⟨⟨%κ, %K, #Hc⟩, ⟨Hp4, Hp8⟩, ⟨Hc4, Hc8⟩, ⟨Hz0, Hz1, Hz5, Hz2, Hz6, Hz3, Hz7⟩, Hx, Hp, ⟨%hcs0, Hcs⟩, ⟨%hro0, Hro⟩, Hm, Hf, Hk, Ha⟩, H4, H5⟩, HQ⟩
  iapply (blk5_wp c i a4 a5 q5 z ho (xf B c) (B.w1 c n) (B.w2 c n) (cm B c) (cs B (peer c)) (pacc B c n))
  isplitl [Hx H4 H5 Hm Hp Ha]
  · isplitl [Hx]
    · iexact Hx
    isplitl [H4]
    · iexact H4
    isplitl [H5]
    · iexact H5
    isplitl [Hm]
    · iexact Hm
    isplitl [Hp]
    · iexact Hp
    iexact Ha
  rw [hs]
  iintro ⟨Hx, H4, H5, Hm, Hp, Ha⟩
  iapply HQ
  isplitl [Hp4 Hp8 Hc4 Hc8 Hz0 Hz1 Hz5 Hz2 Hz6 Hz3 Hz7 Hx Hp Hcs Hro Hm Hf Hk Ha]
  · isplitr
    · iexists κ, K; iexact Hc
    isplitl [Hp4 Hp8]
    · isplitl [Hp4]
      · iexact Hp4
      iexact Hp8
    isplitl [Hc4 Hc8]
    · isplitl [Hc4]
      · iexact Hc4
      iexact Hc8
    isplitl [Hz0 Hz1 Hz5 Hz2 Hz6 Hz3 Hz7]
    · isplitl [Hz0]
      · iexact Hz0
      isplitl [Hz1]
      · iexact Hz1
      isplitl [Hz5]
      · iexact Hz5
      isplitl [Hz2]
      · iexact Hz2
      isplitl [Hz6]
      · iexact Hz6
      isplitl [Hz3]
      · iexact Hz3
      iexact Hz7
    isplitl [Hx]
    · iexact Hx
    isplitl [Hp]
    · iexact Hp
    isplitl [Hcs]
    · iexists _; iexact Hcs
    isplitl [Hro]
    · iexists _; iexact Hro
    isplitl [Hm]
    · iexact Hm
    isplitl [Hf]
    · iexact Hf
    isplitl [Hk]
    · iexact Hk
    iexact Ha
  isplitl [H4]
  · iexact H4
  iexact H5

theorem pt8 (q1 : ¬ k0_cond1 i = 1#1) (q2 : ¬ k0_cond2 i = 1#1) (q3 : k0_cond3 i = 1#1) (q5 : ¬ k0_cond5 i = 1#1) (q6 : ¬ cond6 i = 1#1) (q7 : ¬ k0_cond7 i = 1#1) (q8 : ¬ k0_cond8 i = 1#1) (q4 : ¬ k0_cond4 i = 1#1) (j : Fin 2) (h0 : (i 0).val ≠ 0) (hj : (i 1).val = j.val) (hs : setH (zc (peer c)) (pacc B c 8) (k0_pay12 (BitVec.ofNat 32 (i 0).val) lanes (getH (zc (peer c)) (xf B c)) (k0_pay10 (B.w1 c j.val)) (k0_pay11 (B.w2 c j.val)) (cm B c) (cs B (peer c)) (getH (zc (peer c)) (pacc B c 8))) = pacc B c 9) (Q : PUnit → sProp (MM F)) :
    iprop((late B c 8) ∗ ((late B c 9) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_3 c i a2 h2 a3 h3 a4 h4 a5 h5 a6 h6 q1 q2 q3 q5 q6 q7 q8]
  unfold late
  iintro ⟨⟨⟨%κ, %K, #Hc⟩, ⟨Hp4, Hp8⟩, Hc8, ⟨Ht4, Ht8⟩, ⟨Hz0, Hz1, Hz5, Hz2, Hz6, Hz3, Hz7⟩, Hx, Hp, ⟨%hcs0, Hcs⟩, ⟨%hro0, Hro⟩, Hm, Hf, ⟨%hrb0, Hrb⟩, ⟨%hsb0, Hsb⟩, Hk, Ha⟩, HQ⟩
  unfold caches
  icases Hk with ⟨⟨%f1, %e1, Hk1⟩, ⟨%f2, %e2, Hk2⟩⟩
  iapply (blk3_later c i a2 h2 a3 h3 a4 h4 a5 h5 a6 h6 q3 q4 j h0 hj (xf B c) (cm B c) (cs B (peer c)) (pacc B c 8) f1 f2)
  isplitl [Hx Hm Hp Hk1 Hk2 Ha]
  · isplitl [Hx]
    · iexact Hx
    isplitl [Hm]
    · iexact Hm
    isplitl [Hp]
    · iexact Hp
    isplitl [Hk1]
    · iexact Hk1
    isplitl [Hk2]
    · iexact Hk2
    iexact Ha
  rw [e1 j j.isLt, e2 j j.isLt, hs]
  iintro ⟨Hx, Hm, Hp, Hk1, Hk2, Ha⟩
  iapply HQ
  isplitr
  · iexists κ, K; iexact Hc
  isplitl [Hp4 Hp8]
  · isplitl [Hp4]
    · iexact Hp4
    iexact Hp8
  isplitl [Hc8]
  · iexact Hc8
  isplitl [Ht4 Ht8]
  · isplitl [Ht4]
    · iexact Ht4
    iexact Ht8
  isplitl [Hz0 Hz1 Hz5 Hz2 Hz6 Hz3 Hz7]
  · isplitl [Hz0]
    · iexact Hz0
    isplitl [Hz1]
    · iexact Hz1
    isplitl [Hz5]
    · iexact Hz5
    isplitl [Hz2]
    · iexact Hz2
    isplitl [Hz6]
    · iexact Hz6
    isplitl [Hz3]
    · iexact Hz3
    iexact Hz7
  isplitl [Hx]
  · iexact Hx
  isplitl [Hp]
  · iexact Hp
  isplitl [Hcs]
  · iexists _; iexact Hcs
  isplitl [Hro]
  · iexists _; iexact Hro
  isplitl [Hm]
  · iexact Hm
  isplitl [Hf]
  · iexact Hf
  isplitl [Hrb]
  · iexists _; iexact Hrb
  isplitl [Hsb]
  · iexists _; iexact Hsb
  isplitl [Hk1 Hk2]
  · isplitl [Hk1]
    · iexists f1; isplitr; · ipureintro; exact e1
      iexact Hk1
    iexists f2; isplitr; · ipureintro; exact e2
    iexact Hk2
  iexact Ha

theorem pt9 (q1 : ¬ k0_cond1 i = 1#1) (q2 : ¬ k0_cond2 i = 1#1) (q3 : k0_cond3 i = 1#1) (q5 : ¬ k0_cond5 i = 1#1) (q6 : ¬ cond6 i = 1#1) (q7 : k0_cond7 i = 1#1) (q8 : ¬ k0_cond8 i = 1#1) (q4 : ¬ k0_cond4 i = 1#1) (j : Fin 2) (h0 : (i 0).val ≠ 0) (hj : (i 1).val = j.val) (hs : setH (zc (peer c)) (pacc B c 9) (k0_pay12 (BitVec.ofNat 32 (i 0).val) lanes (getH (zc (peer c)) (xf B c)) (k0_pay10 (B.w1 c j.val)) (k0_pay11 (B.w2 c j.val)) (cm B c) (cs B (peer c)) (getH (zc (peer c)) (pacc B c 9))) = pacc B c 10) (Q : PUnit → sProp (MM F)) :
    iprop((late B c 9 ∗ (∃ W, owes (c : Thread nD τ) (Ow c [8]) W)) ∗ ((fly B c 10 ∗ (∃ W, owes (c : Thread nD τ) (Ow c []) W)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_3_7 c i a2 h2 a3 h3 a4 h4 a5 h5 a6 h6 q1 q2 q3 q5 q6 q7 q8]
  unfold late
  iintro ⟨⟨⟨⟨%κ, %K, #Hc⟩, ⟨Hp4, Hp8⟩, Hc8, ⟨Ht4, Ht8⟩, ⟨Hz0, Hz1, Hz5, Hz2, Hz6, Hz3, Hz7⟩, Hx, Hp, ⟨%hcs0, Hcs⟩, ⟨%hro0, Hro⟩, Hm, Hf, ⟨%hrb0, Hrb⟩, ⟨%hsb0, Hsb⟩, Hk, Ha⟩, HO⟩, HQ⟩
  unfold caches
  icases Hk with ⟨⟨%f1, %e1, Hk1⟩, ⟨%f2, %e2, Hk2⟩⟩
  iapply (blk3_later c i a2 h2 a3 h3 a4 h4 a5 h5 a6 h6 q3 q4 j h0 hj (xf B c) (cm B c) (cs B (peer c)) (pacc B c 9) f1 f2)
  isplitl [Hx Hm Hp Hk1 Hk2 Ha]
  · isplitl [Hx]
    · iexact Hx
    isplitl [Hm]
    · iexact Hm
    isplitl [Hp]
    · iexact Hp
    isplitl [Hk1]
    · iexact Hk1
    isplitl [Hk2]
    · iexact Hk2
    iexact Ha
  rw [e1 j j.isLt, e2 j j.isLt, hs]
  iintro ⟨Hx, Hm, Hp, Hk1, Hk2, Ha⟩
  iapply (blk7_wp B κ K c i q7)
  isplitr; · iexact Hc
  isplitl [HO Ht4 Ht8 Hrb Hsb Ha]
  · isplitl [HO]
    · iexact HO
    isplitl [Ht4]
    · iexact Ht4
    isplitl [Ht8]
    · iexact Ht8
    isplitl [Hrb]
    · iexists _; iexact Hrb
    isplitl [Hsb]
    · iexists _; iexact Hsb
    iexact Ha
  iintro ⟨HO, Hc4, Ha⟩
  iapply HQ
  unfold fly caches
  isplitl [Hp4 Hp8 Hc4 Hc8 Hz0 Hz1 Hz5 Hz2 Hz6 Hz3 Hz7 Hx Hp Hcs Hro Hm Hf Hk1 Hk2 Ha]
  · isplitr
    · iexists κ, K; iexact Hc
    isplitl [Hp4 Hp8]
    · isplitl [Hp4]
      · iexact Hp4
      iexact Hp8
    isplitl [Hc4 Hc8]
    · isplitl [Hc4]
      · iexact Hc4
      iexact Hc8
    isplitl [Hz0 Hz1 Hz5 Hz2 Hz6 Hz3 Hz7]
    · isplitl [Hz0]
      · iexact Hz0
      isplitl [Hz1]
      · iexact Hz1
      isplitl [Hz5]
      · iexact Hz5
      isplitl [Hz2]
      · iexact Hz2
      isplitl [Hz6]
      · iexact Hz6
      isplitl [Hz3]
      · iexact Hz3
      iexact Hz7
    isplitl [Hx]
    · iexact Hx
    isplitl [Hp]
    · iexact Hp
    isplitl [Hcs]
    · iexists _; iexact Hcs
    isplitl [Hro]
    · iexists _; iexact Hro
    isplitl [Hm]
    · iexact Hm
    isplitl [Hf]
    · iexact Hf
    isplitl [Hk1 Hk2]
    · isplitl [Hk1]
      · iexists f1; isplitr; · ipureintro; exact e1
        iexact Hk1
      iexists f2; isplitr; · ipureintro; exact e2
      iexact Hk2
    iexact Ha
  iexact HO

theorem pt11 (q1 : ¬ k0_cond1 i = 1#1) (q2 : ¬ k0_cond2 i = 1#1) (q3 : ¬ k0_cond3 i = 1#1) (q5 : k0_cond5 i = 1#1) (q6 : ¬ cond6 i = 1#1) (q7 : ¬ k0_cond7 i = 1#1) (q8 : k0_cond8 i = 1#1) (ho : k0_off11 i c = hoff (zc c)) (hs : setH (zc c) (pacc B c 11) (k0_pay1 (BitVec.ofNat 32 (i 0).val) lanes (getH (zc c) (xf B c)) (B.w1 c 11) (B.w2 c 11) (cm B c) (cs B (peer c)) (getH (zc c) (pacc B c 11))) = pacc B c 12) (Q : PUnit → sProp (MM F)) :
    iprop((fly B c 11 ∗ (∃ W, owes (c : Thread nD τ) (Ow c []) W) ∗ owns (c : Thread nD τ) a4 fullShare (B.w1 c 11) ∗ owns (c : Thread nD τ) a5 fullShare (B.w2 c 11) ∗ (∃ X, owns (c : Thread nD τ) a6 fullShare X)) ∗ ((done c ∗ (∃ W, owes (c : Thread nD τ) (Ow c []) W) ∗ owns (c : Thread nD τ) a4 fullShare (B.w1 c 11) ∗ owns (c : Thread nD τ) a5 fullShare (B.w2 c 11) ∗ owns (c : Thread nD τ) a6 fullShare (outv B c)) -∗ Q ⟨⟩)) ⊢ run c (cc0__body i a2 h2 a3 h3 a4 h4 a5 h5 a6 h6 xfM (Memref.isWhole_whole _) roM (Memref.isWhole_whole _) cmM (Memref.isWhole_whole _) csM (Memref.isWhole_whole _) cpM (Memref.isWhole_whole _) cfM (Memref.isWhole_whole _) paM (Memref.isWhole_whole _) sbM (Memref.isWhole_whole _) rbM (Memref.isWhole_whole _) k1M (Memref.isWhole_whole _) k2M (Memref.isWhole_whole _) cc0_scratch11 cc0_scratch12) Q := by
  rw [body_5_8 c i a2 h2 a3 h3 a4 h4 a5 h5 a6 h6 q1 q2 q3 q5 q6 q7 q8]
  unfold fly
  iintro ⟨⟨⟨⟨%κ, %K, #Hc⟩, ⟨Hp4, Hp8⟩, ⟨Hc4, Hc8⟩, ⟨Hz0, Hz1, Hz5, Hz2, Hz6, Hz3, Hz7⟩, Hx, Hp, ⟨%hcs0, Hcs⟩, ⟨%hro0, Hro⟩, Hm, Hf, Hk, Ha⟩, HO, H4, H5, Ho⟩, HQ⟩
  iapply (blk5_wp c i a4 a5 q5 (zc c) ho (xf B c) (B.w1 c 11) (B.w2 c 11) (cm B c) (cs B (peer c)) (pacc B c 11))
  isplitl [Hx H4 H5 Hm Hp Ha]
  · isplitl [Hx]
    · iexact Hx
    isplitl [H4]
    · iexact H4
    isplitl [H5]
    · iexact H5
    isplitl [Hm]
    · iexact Hm
    isplitl [Hp]
    · iexact Hp
    iexact Ha
  rw [hs]
  iintro ⟨Hx, H4, H5, Hm, Hp, Ha⟩
  iapply (blk8_wp B κ K c i a6 q8)
  isplitr; · iexact Hc
  isplitl [HO Hp4 Hp8 Hc4 Hc8 Ha Ho]
  · isplitl [HO]
    · iexact HO
    isplitl [Hp4 Hp8]
    · isplitl [Hp4]
      · iexact Hp4
      iexact Hp8
    isplitl [Hc4 Hc8]
    · isplitl [Hc4]
      · iexact Hc4
      iexact Hc8
    isplitl [Ha]
    · iexact Ha
    iexact Ho
  iintro ⟨HO, ⟨Hz4, Hz8⟩, Hsb, Hrb, Ha, Ho⟩
  iapply HQ
  unfold caches
  icases Hk with ⟨⟨%f1, %e1, Hk1⟩, ⟨%f2, %e2, Hk2⟩⟩
  unfold done scratch
  isplitl [Hz0 Hz1 Hz2 Hz3 Hz4 Hz5 Hz6 Hz7 Hz8 Hx Hro Hm Hcs Hp Hf Ha Hsb Hrb Hk1 Hk2]
  · isplitl [Hz0 Hz1 Hz2 Hz3 Hz4 Hz5 Hz6 Hz7 Hz8]
    · isplitl [Hz0]
      · iexact Hz0
      isplitl [Hz1]
      · iexact Hz1
      isplitl [Hz2]
      · iexact Hz2
      isplitl [Hz3]
      · iexact Hz3
      isplitl [Hz4]
      · iexact Hz4
      isplitl [Hz5]
      · iexact Hz5
      isplitl [Hz6]
      · iexact Hz6
      isplitl [Hz7]
      · iexact Hz7
      iexact Hz8
    isplitl [Hx]
    · iexists _; iexact Hx
    isplitl [Hro]
    · iexists _; iexact Hro
    isplitl [Hm]
    · iexists _; iexact Hm
    isplitl [Hcs]
    · iexists _; iexact Hcs
    isplitl [Hp]
    · iexists _; iexact Hp
    isplitl [Hf]
    · iexists _; iexact Hf
    isplitl [Ha]
    · iexists _; iexact Ha
    isplitl [Hsb]
    · iexact Hsb
    isplitl [Hrb]
    · iexact Hrb
    isplitl [Hk1]
    · iexists _; iexact Hk1
    iexists _; iexact Hk2
  isplitl [HO]
  · iexact HO
  isplitl [H4]
  · iexact H4
  isplitl [H5]
  · iexact H5
  iexact Ho

end Cert.MoE

end
-- ==== Proof.Grid.lean ====
/-
# The whole grid

What holds between the points of the grid, and that the body takes each point to the next.
-/
module

public import proofs.«01_k».proof.Proof.AtPoint
public import proofs.«01_k».proof.Proof.Gen.KernelIdeal.Frame

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat BodyObligation)

variable (m : (ℓ : Loc nD τ sig) → Buf (Elt F) ℓ) (ρ : Dev nD → PrngReg) (c : Dev nD)

/-- A number as a grid point. -/
def pt (n : ℕ) : Fin cfg0.N := ⟨n % 12, lt_of_lt_of_eq (Nat.mod_lt n (by decide)) N_0.symm⟩

/-- The blocks the devices are launched with. -/
def blks : Blocks F where
  x c := iblk m c 0 t0_0
  r c := iblk m c 1 t0_0
  w1 c n := iblk m c 2 (pt n)
  w2 c n := iblk m c 3 (pt n)

/-- What device `c` holds before point `n`. -/
def inv (n : ℕ) : sProp (MM F) :=
  if n = 0 then iprop(start (blks m) c ∗ scratch c)
  else if n < 3 then mid (blks m) c n
  else if n < 10 then late (blks m) c n
  else if n < 12 then fly (blks m) c n
  else done c

theorem inv_zero : inv m c 0 = iprop(start (blks m) c ∗ scratch c) := rfl
theorem inv_mid {n : ℕ} (h : 0 < n) (h' : n < 3) : inv m c n = mid (blks m) c n := by
  unfold inv; rw [if_neg (by omega), if_pos h']
theorem inv_late {n : ℕ} (h : 3 ≤ n) (h' : n < 10) : inv m c n = late (blks m) c n := by
  unfold inv; rw [if_neg (by omega), if_neg (by omega), if_pos h']
theorem inv_fly {n : ℕ} (h : 10 ≤ n) (h' : n < 12) : inv m c n = fly (blks m) c n := by
  unfold inv; rw [if_neg (by omega), if_neg (by omega), if_neg (by omega), if_pos h']
theorem inv_done : inv m c 12 = (done c : sProp (MM F)) := rfl

/-- What it still owes before point `n`. -/
def owe (n : ℕ) : CellTallies nD τ sig Unit :=
  if n = 0 then Ow c [0, 5, 6, 7, 8] else if n < 10 then Ow c [8] else Ow c []

theorem owe_zero : owe c 0 = Ow c [0, 5, 6, 7, 8] := rfl
theorem owe_eight {n : ℕ} (h : 0 < n) (h' : n < 10) : owe c n = Ow c [8] := by
  unfold owe; rw [if_neg (by omega), if_pos h']
theorem owe_none {n : ℕ} (h : 10 ≤ n) : owe c n = Ow c [] := by
  unfold owe; rw [if_neg (by omega), if_neg (by omega)]

def dats (_ : Fin 1) (c : Dev nD) : Dat τ (Elt F) Unit ℕ (UU F) ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outv (blks m) c
  Φ t := inv m c t.val
  q _ := fullShare
  owed t := owe c t.val

theorem before_0 (t : Fin cfg0.N) (d) : (dats m ρ 0 c).before 0 t d = iblk m c 0 t :=
  ((dats m ρ 0 c).before_in_eq_fetched 0 rfl (fun _ => rfl) (fun _ _ _ => rfl) (fun _ => rfl) t d).trans rfl
theorem before_1 (t : Fin cfg0.N) (d) : (dats m ρ 0 c).before 1 t d = iblk m c 1 t :=
  ((dats m ρ 0 c).before_in_eq_fetched 1 rfl (fun _ => rfl) (fun _ _ _ => rfl) (fun _ => rfl) t d).trans rfl
theorem before_2 (t : Fin cfg0.N) (d) : (dats m ρ 0 c).before 2 t d = iblk m c 2 t :=
  ((dats m ρ 0 c).before_in_eq_fetched 2 rfl (fun _ => rfl) (fun _ _ _ => rfl) (fun _ => rfl) t d).trans rfl
theorem before_3 (t : Fin cfg0.N) (d) : (dats m ρ 0 c).before 3 t d = iblk m c 3 t :=
  ((dats m ρ 0 c).before_in_eq_fetched 3 rfl (fun _ => rfl) (fun _ _ _ => rfl) (fun _ => rfl) t d).trans rfl

theorem bigSep_W (Φ : Fin cfg0.W → sProp (MM F)) : bigSep Finset.univ Φ = iprop(Φ (0 : Fin 5) ∗ Φ (1 : Fin 5) ∗ Φ (2 : Fin 5) ∗ Φ (3 : Fin 5) ∗ Φ (4 : Fin 5)) := bigSep_W0 Φ

/-- The four input blocks at a point. -/
def ins (t : Fin cfg0.N) : sProp (MM F) :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

/-- The invariant and the debts before point `n`. -/
def held (n : ℕ) : sProp (MM F) := iprop(inv m c n ∗ ∃ W, owes (c : Thread nD τ) (owe c n) W)

/-- The obligation at one point, the windows taken one by one. -/
def Ob (t : Fin cfg0.N) (post4 : sProp (MM F)) : Prop :=
  iprop(held m c t.val ∗ ins m c t ∗ ∃ d, owns (c : Thread nD τ) (st0_4 t) fullShare ((dats m ρ 0 c).before 4 t d))
    ⊢ run c (bodyAt0 t) fun _ => iprop(held m c (t.val + 1) ∗ ins m c t ∗ post4)

theorem ob_of (t : Fin cfg0.N) (post4 : sProp (MM F)) (h : Ob m ρ c t post4) :
    iprop((dats m ρ 0 c).Φ t.castSucc ∗ (dats m ρ 0 c).owesAt () t.castSucc
      ∗ (∃ d, owns (c : Thread nD τ) (st0_0 t) fullShare ((dats m ρ 0 c).before 0 t d))
      ∗ (∃ d, owns (c : Thread nD τ) (st0_1 t) fullShare ((dats m ρ 0 c).before 1 t d))
      ∗ (∃ d, owns (c : Thread nD τ) (st0_2 t) fullShare ((dats m ρ 0 c).before 2 t d))
      ∗ (∃ d, owns (c : Thread nD τ) (st0_3 t) fullShare ((dats m ρ 0 c).before 3 t d))
      ∗ (∃ d, owns (c : Thread nD τ) (st0_4 t) fullShare ((dats m ρ 0 c).before 4 t d)))
    ⊢ run c (bodyAt0 t) fun _ => iprop((dats m ρ 0 c).Φ t.succ ∗ (dats m ρ 0 c).owesAt () t.succ
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t) ∗ post4) := by
  unfold Ob held ins at h
  simp only [before_0, before_1, before_2, before_3]
  unfold Dat.owesAt Pipeline.owesWithin
  rw [show (dats m ρ 0 c).Φ t.castSucc = inv m c t.val from rfl, show (dats m ρ 0 c).Φ t.succ = inv m c (t.val + 1) from rfl,
    show (dats m ρ 0 c).owed t.castSucc = owe c t.val from rfl, show (dats m ρ 0 c).owed t.succ = owe c (t.val + 1) from rfl]
  iintro ⟨HI, ⟨%W, -, HO⟩, ⟨%d0, H0⟩, ⟨%d1, H1⟩, ⟨%d2, H2⟩, ⟨%d3, H3⟩, H4⟩
  ihave H := h $$ [HI HO H0 H1 H2 H3 H4]
  · isplitl [HI HO]
    · isplitl [HI]; · iexact HI
      iexists W; iexact HO
    isplitr [H4]
    · isplitl [H0]; · iexact H0
      isplitl [H1]; · iexact H1
      isplitl [H2]; · iexact H2
      iexact H3
    iexact H4
  iapply (wp_mono _ _ _ (fun _ => ?_)) $$ H
  iintro ⟨⟨HI, ⟨%W', HO⟩⟩, ⟨H0, H1, H2, H3⟩, H4⟩
  isplitl [HI]; · iexact HI
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- A point at which the result is not written: the body passes every block through. -/
theorem ob_idle (t : Fin cfg0.N)
    (h : ∀ Q : PUnit → sProp (MM F), iprop(held m c t.val ∗ ins m c t ∗ (held m c (t.val + 1) ∗ ins m c t -∗ Q ⟨⟩)) ⊢ run c (bodyAt0 t) Q) :
    Ob m ρ c t iprop(∃ d, owns (c : Thread nD τ) (st0_4 t) fullShare ((dats m ρ 0 c).before 4 t d)) := by
  unfold Ob
  iintro ⟨HH, HI, H4⟩
  iapply (h _)
  isplitl [HH]; · iexact HH
  isplitl [HI]; · iexact HI
  iintro ⟨HH, HI⟩
  isplitl [HH]; · iexact HH
  isplitl [HI]; · iexact HI
  iexact H4

/-- The conditions of the body at the points. -/
theorem conds (n : Fin 12) :
    (k0_cond1 (grid0.coords (pt n.val)) = 1#1 ↔ n.val = 0) ∧ (k0_cond2 (grid0.coords (pt n.val)) = 1#1 ↔ n.val = 2)
    ∧ (k0_cond3 (grid0.coords (pt n.val)) = 1#1 ↔ n.val < 2 ∨ n.val = 8 ∨ n.val = 9) ∧ (k0_cond4 (grid0.coords (pt n.val)) = 1#1 ↔ n.val < 2)
    ∧ (k0_cond5 (grid0.coords (pt n.val)) = 1#1 ↔ n.val = 6 ∨ n.val = 7 ∨ 10 ≤ n.val) ∧ (cond6 (grid0.coords (pt n.val)) = 1#1 ↔ 2 ≤ n.val ∧ n.val < 6)
    ∧ (k0_cond7 (grid0.coords (pt n.val)) = 1#1 ↔ n.val = 9) ∧ (k0_cond8 (grid0.coords (pt n.val)) = 1#1 ↔ n.val = 11) := by
  revert n; decide
theorem coord0 (n : Fin 12) : ((grid0.coords (pt n.val)) 0).val = n.val / 2 := by revert n; decide
theorem coord1 (n : Fin 12) : ((grid0.coords (pt n.val)) 1).val = n.val % 2 := by revert n; decide

theorem val_pt (n : Fin 12) : (pt n.val).val = n.val := Nat.mod_eq_of_lt n.isLt

/-- One point of the obligation, for the point's number. -/
def Step (n : Fin 12) : Prop := ∀ Q : PUnit → sProp (MM F),
  iprop(held m c n.val ∗ ins m c (pt n.val) ∗ (held m c (n.val + 1) ∗ ins m c (pt n.val) -∗ Q ⟨⟩)) ⊢ run c (bodyAt0 (pt n.val)) Q

theorem step_0 : Step m c 0 := by
  obtain ⟨q1, q2, q3, q4, q5, q6, q7, q8⟩ := conds 0
  intro Q
  unfold held ins
  rw [show ((0 : Fin 12).val) = 0 from rfl, inv_zero, inv_mid m c (n := 0 + 1) (by decide) (by decide), owe_zero, owe_eight c (n := 0 + 1) (by decide) (by decide)]
  iintro ⟨⟨⟨Hst, Hsc⟩, HO⟩, ⟨H0, H1, H2, H3⟩, HQ⟩
  iapply (pt0 (blks m) c (grid0.coords (pt 0)) (st0_0 (pt 0)) (hstage0_0 ((cfg0.slots (pt 0) 0).cast nbuf0_0)) (st0_2 (pt 0)) (hstage0_2 ((cfg0.slots (pt 0) 2).cast nbuf0_2)) (st0_3 (pt 0)) (hstage0_3 ((cfg0.slots (pt 0) 3).cast nbuf0_3)) (st0_4 (pt 0)) (hstage0_4 ((cfg0.slots (pt 0) 4).cast nbuf0_4))
    (q1.2 rfl) (fun h => absurd (q2.1 h) (by decide)) (q3.2 (by decide)) (fun h => absurd (q5.1 h) (by decide)) (fun h => absurd (q6.1 h) (by decide)) (fun h => absurd (q7.1 h) (by decide)) (fun h => absurd (q8.1 h) (by decide))
    (q4.2 (by decide)) (coord0 0) (coord1 0) Q)
  isplitr [HQ]
  · isplitl [Hst]; · iexact Hst
    isplitl [Hsc]; · iexact Hsc
    isplitl [HO]; · iexact HO
    isplitl [H0]; · iexact H0
    isplitl [H1]; · iexact H1
    isplitl [H2]; · iexact H2
    iexact H3
  iintro ⟨HI, HO, H0, H1, H2, H3⟩
  iapply HQ
  isplitl [HI HO]
  · isplitl [HI]; · iexact HI
    iexact HO
  isplitl [H0]; · iexact H0
  isplitl [H1]; · iexact H1
  isplitl [H2]; · iexact H2
  iexact H3

theorem step_1 : Step m c 1 := by
  obtain ⟨q1, q2, q3, q4, q5, q6, q7, q8⟩ := conds 1
  have e0 := coord0 1
  have e1 := coord1 1
  intro Q
  unfold held ins
  rw [show ((1 : Fin 12).val) = 1 from rfl, inv_mid m c (n := 1) (by decide) (by decide), inv_mid m c (n := 1 + 1) (by decide) (by decide), owe_eight c (n := 1) (by decide) (by decide), owe_eight c (n := 1 + 1) (by decide) (by decide)]
  iintro ⟨⟨HI, HO⟩, ⟨H0, H1, H2, H3⟩, HQ⟩
  iapply (pt1 (blks m) c (grid0.coords (pt 1)) (st0_0 (pt 1)) (hstage0_0 ((cfg0.slots (pt 1) 0).cast nbuf0_0)) (st0_1 (pt 1)) (hstage0_1 ((cfg0.slots (pt 1) 1).cast nbuf0_1)) (st0_2 (pt 1)) (hstage0_2 ((cfg0.slots (pt 1) 2).cast nbuf0_2)) (st0_3 (pt 1)) (hstage0_3 ((cfg0.slots (pt 1) 3).cast nbuf0_3)) (st0_4 (pt 1)) (hstage0_4 ((cfg0.slots (pt 1) 4).cast nbuf0_4))
    (fun h => absurd (q1.1 h) (by decide)) (fun h => absurd (q2.1 h) (by decide)) (q3.2 (by decide)) (fun h => absurd (q5.1 h) (by decide)) (fun h => absurd (q6.1 h) (by decide)) (fun h => absurd (q7.1 h) (by decide)) (fun h => absurd (q8.1 h) (by decide))
    (q4.2 (by decide)) e0 e1 Q)
  isplitl [HI H2 H3]
  · isplitl [HI]; · iexact HI
    isplitl [H2]; · iexact H2
    iexact H3
  iintro ⟨HI, H2, H3⟩
  iapply HQ
  isplitl [HI HO]
  · isplitl [HI]; · iexact HI
    iexact HO
  isplitl [H0]; · iexact H0
  isplitl [H1]; · iexact H1
  isplitl [H2]; · iexact H2
  iexact H3

theorem step_2 : Step m c 2 := by
  obtain ⟨q1, q2, q3, q4, q5, q6, q7, q8⟩ := conds 2
  have e0 := coord0 2
  have e1 := coord1 2
  intro Q
  unfold held ins
  rw [show ((2 : Fin 12).val) = 2 from rfl, inv_mid m c (n := 2) (by decide) (by decide), inv_late m c (n := 2 + 1) (by decide) (by decide), owe_eight c (n := 2) (by decide) (by decide), owe_eight c (n := 2 + 1) (by decide) (by decide)]
  iintro ⟨⟨HI, HO⟩, ⟨H0, H1, H2, H3⟩, HQ⟩
  iapply (pt2 (blks m) c (grid0.coords (pt 2)) (st0_0 (pt 2)) (hstage0_0 ((cfg0.slots (pt 2) 0).cast nbuf0_0)) (st0_1 (pt 2)) (hstage0_1 ((cfg0.slots (pt 2) 1).cast nbuf0_1)) (st0_2 (pt 2)) (hstage0_2 ((cfg0.slots (pt 2) 2).cast nbuf0_2)) (st0_3 (pt 2)) (hstage0_3 ((cfg0.slots (pt 2) 3).cast nbuf0_3)) (st0_4 (pt 2)) (hstage0_4 ((cfg0.slots (pt 2) 4).cast nbuf0_4))
    (fun h => absurd (q1.1 h) (by decide)) (q2.2 (by decide)) (fun h => absurd (q3.1 h) (by decide)) (fun h => absurd (q5.1 h) (by decide)) (q6.2 (by decide)) (fun h => absurd (q7.1 h) (by decide)) (fun h => absurd (q8.1 h) (by decide))
    e0 Q)
  isplitl [HI HO H2 H3]
  · isplitl [HI]; · iexact HI
    isplitl [HO]; · iexact HO
    isplitl [H2]; · iexact H2
    iexact H3
  iintro ⟨HI, HO, H2, H3⟩
  iapply HQ
  isplitl [HI HO]
  · isplitl [HI]; · iexact HI
    iexact HO
  isplitl [H0]; · iexact H0
  isplitl [H1]; · iexact H1
  isplitl [H2]; · iexact H2
  iexact H3

theorem step_both (n : Fin 12) (h : 3 ≤ n.val) (h' : n.val < 6) : Step m c n := by
  obtain ⟨q1, q2, q3, q4, q5, q6, q7, q8⟩ := conds n
  have e0 := coord0 n
  have e1 := coord1 n
  have hs : k0_pay2 (BitVec.ofNat 32 ((grid0.coords (pt n.val)) 0).val) (xf (blks m) c) ((blks m).w1 c n.val) ((blks m).w2 c n.val) (cf (blks m) c) (pacc (blks m) c n.val)
      = pacc (blks m) c (n.val + 1) := by
    show _ = pstep (blks m) c n.val _
    unfold pstep
    rw [e0, if_neg (by omega), if_pos (by omega)]
  intro Q
  unfold held ins
  rw [inv_late m c (n := n.val) (by omega) (by omega), inv_late m c (n := n.val + 1) (by omega) (by omega), owe_eight c (n := n.val) (by omega) (by omega), owe_eight c (n := n.val + 1) (by omega) (by omega)]
  iintro ⟨⟨HI, HO⟩, ⟨H0, H1, H2, H3⟩, HQ⟩
  iapply (pt_both (blks m) c (grid0.coords (pt n.val)) (st0_0 (pt n.val)) (hstage0_0 ((cfg0.slots (pt n.val) 0).cast nbuf0_0)) (st0_1 (pt n.val)) (hstage0_1 ((cfg0.slots (pt n.val) 1).cast nbuf0_1)) (st0_2 (pt n.val)) (hstage0_2 ((cfg0.slots (pt n.val) 2).cast nbuf0_2)) (st0_3 (pt n.val)) (hstage0_3 ((cfg0.slots (pt n.val) 3).cast nbuf0_3)) (st0_4 (pt n.val)) (hstage0_4 ((cfg0.slots (pt n.val) 4).cast nbuf0_4))
    (fun h => absurd (q1.1 h) (by omega)) (fun h => absurd (q2.1 h) (by omega)) (fun h => absurd (q3.1 h) (by omega)) (fun h => absurd (q5.1 h) (by omega)) (q6.2 (by omega)) (fun h => absurd (q7.1 h) (by omega)) (fun h => absurd (q8.1 h) (by omega))
    n.val hs Q)
  isplitl [HI H2 H3]
  · isplitl [HI]; · iexact HI
    isplitl [H2]; · iexact H2
    iexact H3
  iintro ⟨HI, H2, H3⟩
  iapply HQ
  isplitl [HI HO]
  · isplitl [HI]; · iexact HI
    iexact HO
  isplitl [H0]; · iexact H0
  isplitl [H1]; · iexact H1
  isplitl [H2]; · iexact H2
  iexact H3

theorem step_opp (n : Fin 12) (h : 6 ≤ n.val) (h' : n.val < 8) : Step m c n := by
  obtain ⟨q1, q2, q3, q4, q5, q6, q7, q8⟩ := conds n
  have e0 := coord0 n
  have e1 := coord1 n
  have hs : setH (zc (peer c)) (pacc (blks m) c n.val) (k0_pay1 (BitVec.ofNat 32 ((grid0.coords (pt n.val)) 0).val) lanes (getH (zc (peer c)) (xf (blks m) c)) ((blks m).w1 c n.val) ((blks m).w2 c n.val) (cm (blks m) c) (cs (blks m) (peer c)) (getH (zc (peer c)) (pacc (blks m) c n.val)))
      = pacc (blks m) c (n.val + 1) := by
    show _ = pstep (blks m) c n.val _
    unfold pstep
    rw [e0, if_neg (by omega), if_neg (by omega), if_pos (by omega), show n.val / 2 = 3 by omega]
  intro Q
  unfold held ins
  rw [inv_late m c (n := n.val) (by omega) (by omega), inv_late m c (n := n.val + 1) (by omega) (by omega), owe_eight c (n := n.val) (by omega) (by omega), owe_eight c (n := n.val + 1) (by omega) (by omega)]
  iintro ⟨⟨HI, HO⟩, ⟨H0, H1, H2, H3⟩, HQ⟩
  iapply (pt_half (blks m) c (grid0.coords (pt n.val)) (st0_0 (pt n.val)) (hstage0_0 ((cfg0.slots (pt n.val) 0).cast nbuf0_0)) (st0_1 (pt n.val)) (hstage0_1 ((cfg0.slots (pt n.val) 1).cast nbuf0_1)) (st0_2 (pt n.val)) (hstage0_2 ((cfg0.slots (pt n.val) 2).cast nbuf0_2)) (st0_3 (pt n.val)) (hstage0_3 ((cfg0.slots (pt n.val) 3).cast nbuf0_3)) (st0_4 (pt n.val)) (hstage0_4 ((cfg0.slots (pt n.val) 4).cast nbuf0_4))
    (fun h => absurd (q1.1 h) (by omega)) (fun h => absurd (q2.1 h) (by omega)) (fun h => absurd (q3.1 h) (by omega)) (q5.2 (by omega)) (fun h => absurd (q6.1 h) (by omega)) (fun h => absurd (q7.1 h) (by omega)) (fun h => absurd (q8.1 h) (by omega))
    n.val (zc (peer c)) (off11_opp _ (fun h5 => absurd (e0.symm.trans h5) (by omega)) c) hs Q)
  isplitl [HI H2 H3]
  · isplitl [HI]; · iexact HI
    isplitl [H2]; · iexact H2
    iexact H3
  iintro ⟨HI, H2, H3⟩
  iapply HQ
  isplitl [HI HO]
  · isplitl [HI]; · iexact HI
    iexact HO
  isplitl [H0]; · iexact H0
  isplitl [H1]; · iexact H1
  isplitl [H2]; · iexact H2
  iexact H3

theorem step_10 : Step m c 10 := by
  obtain ⟨q1, q2, q3, q4, q5, q6, q7, q8⟩ := conds 10
  have e0 := coord0 10
  have e1 := coord1 10
  have hs : setH (zc c) (pacc (blks m) c 10) (k0_pay1 (BitVec.ofNat 32 ((grid0.coords (pt 10)) 0).val) lanes (getH (zc c) (xf (blks m) c)) ((blks m).w1 c 10) ((blks m).w2 c 10) (cm (blks m) c) (cs (blks m) (peer c)) (getH (zc c) (pacc (blks m) c 10)))
      = pacc (blks m) c (10 + 1) := by
    show _ = pstep (blks m) c 10 _
    rw [show ((grid0.coords (pt 10)) 0).val = 5 from e0]
    rfl
  intro Q
  unfold held ins
  rw [show ((10 : Fin 12).val) = 10 from rfl, inv_fly m c (n := 10) (by decide) (by decide), inv_fly m c (n := 10 + 1) (by decide) (by decide), owe_none c (n := 10) (by decide), owe_none c (n := 10 + 1) (by decide)]
  iintro ⟨⟨HI, HO⟩, ⟨H0, H1, H2, H3⟩, HQ⟩
  iapply (pt10 (blks m) c (grid0.coords (pt 10)) (st0_0 (pt 10)) (hstage0_0 ((cfg0.slots (pt 10) 0).cast nbuf0_0)) (st0_1 (pt 10)) (hstage0_1 ((cfg0.slots (pt 10) 1).cast nbuf0_1)) (st0_2 (pt 10)) (hstage0_2 ((cfg0.slots (pt 10) 2).cast nbuf0_2)) (st0_3 (pt 10)) (hstage0_3 ((cfg0.slots (pt 10) 3).cast nbuf0_3)) (st0_4 (pt 10)) (hstage0_4 ((cfg0.slots (pt 10) 4).cast nbuf0_4))
    (fun h => absurd (q1.1 h) (by decide)) (fun h => absurd (q2.1 h) (by decide)) (fun h => absurd (q3.1 h) (by decide)) (q5.2 (by decide)) (fun h => absurd (q6.1 h) (by decide)) (fun h => absurd (q7.1 h) (by decide)) (fun h => absurd (q8.1 h) (by decide))
    10 (zc c) (off11_own _ e0 c) hs Q)
  isplitl [HI H2 H3]
  · isplitl [HI]; · iexact HI
    isplitl [H2]; · iexact H2
    iexact H3
  iintro ⟨HI, H2, H3⟩
  iapply HQ
  isplitl [HI HO]
  · isplitl [HI]; · iexact HI
    iexact HO
  isplitl [H0]; · iexact H0
  isplitl [H1]; · iexact H1
  isplitl [H2]; · iexact H2
  iexact H3

theorem step_8 : Step m c 8 := by
  obtain ⟨q1, q2, q3, q4, q5, q6, q7, q8⟩ := conds 8
  have e0 := coord0 8
  have e1 := coord1 8
  have hs : setH (zc (peer c)) (pacc (blks m) c 8) (k0_pay12 (BitVec.ofNat 32 ((grid0.coords (pt 8)) 0).val) lanes (getH (zc (peer c)) (xf (blks m) c)) (k0_pay10 ((blks m).w1 c (0 : Fin 2).val)) (k0_pay11 ((blks m).w2 c (0 : Fin 2).val)) (cm (blks m) c) (cs (blks m) (peer c)) (getH (zc (peer c)) (pacc (blks m) c 8)))
      = pacc (blks m) c (8 + 1) := by
    show _ = pstep (blks m) c 8 _
    rw [show ((grid0.coords (pt 8)) 0).val = 4 from e0]
    rfl
  intro Q
  unfold held ins
  rw [show ((8 : Fin 12).val) = 8 from rfl, inv_late m c (n := 8) (by decide) (by decide), inv_late m c (n := 8 + 1) (by decide) (by decide), owe_eight c (n := 8) (by decide) (by decide), owe_eight c (n := 8 + 1) (by decide) (by decide)]
  iintro ⟨⟨HI, HO⟩, ⟨H0, H1, H2, H3⟩, HQ⟩
  iapply (pt8 (blks m) c (grid0.coords (pt 8)) (st0_0 (pt 8)) (hstage0_0 ((cfg0.slots (pt 8) 0).cast nbuf0_0)) (st0_1 (pt 8)) (hstage0_1 ((cfg0.slots (pt 8) 1).cast nbuf0_1)) (st0_2 (pt 8)) (hstage0_2 ((cfg0.slots (pt 8) 2).cast nbuf0_2)) (st0_3 (pt 8)) (hstage0_3 ((cfg0.slots (pt 8) 3).cast nbuf0_3)) (st0_4 (pt 8)) (hstage0_4 ((cfg0.slots (pt 8) 4).cast nbuf0_4))
    (fun h => absurd (q1.1 h) (by decide)) (fun h => absurd (q2.1 h) (by decide)) (q3.2 (by decide)) (fun h => absurd (q5.1 h) (by decide)) (fun h => absurd (q6.1 h) (by decide)) (fun h => absurd (q7.1 h) (by decide)) (fun h => absurd (q8.1 h) (by decide))
    (fun h => absurd (q4.1 h) (by decide)) 0 (fun h => absurd (e0.symm.trans h) (by decide)) e1 hs Q)
  isplitl [HI]
  · iexact HI
  iintro HI
  iapply HQ
  isplitl [HI HO]
  · isplitl [HI]; · iexact HI
    iexact HO
  isplitl [H0]; · iexact H0
  isplitl [H1]; · iexact H1
  isplitl [H2]; · iexact H2
  iexact H3

theorem step_9 : Step m c 9 := by
  obtain ⟨q1, q2, q3, q4, q5, q6, q7, q8⟩ := conds 9
  have e0 := coord0 9
  have e1 := coord1 9
  have hs : setH (zc (peer c)) (pacc (blks m) c 9) (k0_pay12 (BitVec.ofNat 32 ((grid0.coords (pt 9)) 0).val) lanes (getH (zc (peer c)) (xf (blks m) c)) (k0_pay10 ((blks m).w1 c (1 : Fin 2).val)) (k0_pay11 ((blks m).w2 c (1 : Fin 2).val)) (cm (blks m) c) (cs (blks m) (peer c)) (getH (zc (peer c)) (pacc (blks m) c 9)))
      = pacc (blks m) c (9 + 1) := by
    show _ = pstep (blks m) c 9 _
    rw [show ((grid0.coords (pt 9)) 0).val = 4 from e0]
    rfl
  intro Q
  unfold held ins
  rw [show ((9 : Fin 12).val) = 9 from rfl, inv_late m c (n := 9) (by decide) (by decide), inv_fly m c (n := 9 + 1) (by decide) (by decide), owe_eight c (n := 9) (by decide) (by decide), owe_none c (n := 9 + 1) (by decide)]
  iintro ⟨⟨HI, HO⟩, ⟨H0, H1, H2, H3⟩, HQ⟩
  iapply (pt9 (blks m) c (grid0.coords (pt 9)) (st0_0 (pt 9)) (hstage0_0 ((cfg0.slots (pt 9) 0).cast nbuf0_0)) (st0_1 (pt 9)) (hstage0_1 ((cfg0.slots (pt 9) 1).cast nbuf0_1)) (st0_2 (pt 9)) (hstage0_2 ((cfg0.slots (pt 9) 2).cast nbuf0_2)) (st0_3 (pt 9)) (hstage0_3 ((cfg0.slots (pt 9) 3).cast nbuf0_3)) (st0_4 (pt 9)) (hstage0_4 ((cfg0.slots (pt 9) 4).cast nbuf0_4))
    (fun h => absurd (q1.1 h) (by decide)) (fun h => absurd (q2.1 h) (by decide)) (q3.2 (by decide)) (fun h => absurd (q5.1 h) (by decide)) (fun h => absurd (q6.1 h) (by decide)) (q7.2 (by decide)) (fun h => absurd (q8.1 h) (by decide))
    (fun h => absurd (q4.1 h) (by decide)) 1 (fun h => absurd (e0.symm.trans h) (by decide)) e1 hs Q)
  isplitl [HI HO]
  · isplitl [HI]; · iexact HI
    iexact HO
  iintro ⟨HI, HO⟩
  iapply HQ
  isplitl [HI HO]
  · isplitl [HI]; · iexact HI
    iexact HO
  isplitl [H0]; · iexact H0
  isplitl [H1]; · iexact H1
  isplitl [H2]; · iexact H2
  iexact H3

theorem ob_11 : Ob m ρ c (pt 11) (owns (c : Thread nD τ) (st0_4 (pt 11)) fullShare (outv (blks m) c)) := by
  obtain ⟨q1, q2, q3, q4, q5, q6, q7, q8⟩ := conds 11
  have e0 := coord0 11
  have hs : setH (zc c) (pacc (blks m) c 11) (k0_pay1 (BitVec.ofNat 32 ((grid0.coords (pt 11)) 0).val) lanes (getH (zc c) (xf (blks m) c)) ((blks m).w1 c 11) ((blks m).w2 c 11) (cm (blks m) c) (cs (blks m) (peer c)) (getH (zc c) (pacc (blks m) c 11)))
      = pacc (blks m) c (11 + 1) := by
    show _ = pstep (blks m) c 11 _
    rw [show ((grid0.coords (pt 11)) 0).val = 5 from e0]
    rfl
  unfold Ob held ins
  rw [show (pt 11).val = 11 from rfl, inv_fly m c (n := 11) (by decide) (by decide), show 11 + 1 = 12 from rfl, inv_done, owe_none c (n := 11) (by decide), owe_none c (n := 12) (by decide)]
  iintro ⟨⟨HI, HO⟩, ⟨H0, H1, H2, H3⟩, ⟨%d, H4⟩⟩
  iapply (pt11 (blks m) c (grid0.coords (pt 11)) (st0_0 (pt 11)) (hstage0_0 ((cfg0.slots (pt 11) 0).cast nbuf0_0)) (st0_1 (pt 11)) (hstage0_1 ((cfg0.slots (pt 11) 1).cast nbuf0_1)) (st0_2 (pt 11)) (hstage0_2 ((cfg0.slots (pt 11) 2).cast nbuf0_2)) (st0_3 (pt 11)) (hstage0_3 ((cfg0.slots (pt 11) 3).cast nbuf0_3)) (st0_4 (pt 11)) (hstage0_4 ((cfg0.slots (pt 11) 4).cast nbuf0_4))
    (fun h => absurd (q1.1 h) (by decide)) (fun h => absurd (q2.1 h) (by decide)) (fun h => absurd (q3.1 h) (by decide)) (q5.2 (by decide)) (fun h => absurd (q6.1 h) (by decide)) (fun h => absurd (q7.1 h) (by decide)) (q8.2 (by decide))
    (off11_own _ e0 c) hs _)
  isplitl [HI HO H2 H3 H4]
  · isplitl [HI]; · iexact HI
    isplitl [HO]; · iexact HO
    isplitl [H2]; · iexact H2
    isplitl [H3]; · iexact H3
    iexists _; iexact H4
  iintro ⟨HI, HO, H2, H3, H4⟩
  isplitl [HI HO]
  · isplitl [HI]; · iexact HI
    iexact HO
  isplitl [H0 H1 H2 H3]
  · isplitl [H0]; · iexact H0
    isplitl [H1]; · iexact H1
    isplitl [H2]; · iexact H2
    iexact H3
  iexact H4

theorem steps (n : Fin 12) (h : n.val ≠ 11) : Step m c n := by
  match n with
  | 0 => exact step_0 m c
  | 1 => exact step_1 m c
  | 2 => exact step_2 m c
  | 3 => exact step_both m c 3 (by decide) (by decide)
  | 4 => exact step_both m c 4 (by decide) (by decide)
  | 5 => exact step_both m c 5 (by decide) (by decide)
  | 6 => exact step_opp m c 6 (by decide) (by decide)
  | 7 => exact step_opp m c 7 (by decide) (by decide)
  | 8 => exact step_8 m c
  | 9 => exact step_9 m c
  | 10 => exact step_10 m c
  | 11 => exact absurd rfl h

theorem idle4 (n : Fin 12) : (cfg0.idle 4 (cfg0.grid.coords (pt n.val)) = true) = (n.val ≠ 11) ∧ ((cfg0.win 4).flush (pt n.val) = true) = (n.val = 11) := by
  refine ⟨?_, propext ((flush0_4 (pt n.val)).trans (by rw [val_pt]; omega))⟩
  revert n; decide

/-- The body meets its obligation at every point. -/
theorem body_obligation : BodyObligation (dats (F := F) m ρ 0 c) (defs₀ (F := F)) 𝒱₀ () Set.univ := fun t => by
  obtain ⟨n, rfl⟩ : ∃ n : Fin 12, t = pt n.val := ⟨⟨t.val, lt_of_lt_of_eq t.isLt N_0⟩, Fin.ext (Nat.mod_eq_of_lt (lt_of_lt_of_eq t.isLt N_0)).symm⟩
  rw [bigSep_W, bigSep_W]
  obtain ⟨hi, hf⟩ := idle4 n
  by_cases h : n.val = 11
  · have hn : n = 11 := Fin.ext h
    subst hn
    have hi' : cfg0.idle 4 (cfg0.grid.coords (pt (11 : Fin 12).val)) = false := by rw [← Bool.not_eq_true, hi]; decide
    rw [hi']
    exact ob_of m ρ c _ _ (ob_11 m ρ c)
  · have hi' : cfg0.idle 4 (cfg0.grid.coords (pt n.val)) = true := by rw [hi]; exact h
    have hf' : (cfg0.win 4).flush (pt n.val) = false := by rw [← Bool.not_eq_true, hf]; exact h
    rw [hi', hf']
    refine ob_of m ρ c _ _ (ob_idle m ρ c _ ?_)
    rw [val_pt]; exact steps m c n h

end Cert.MoE

end
-- ==== Proof.Launch.lean ====
/-
# The launch

What the launch deals every device, and the run of the whole mesh: it ends with every result array at the contents that
the body leaves after the last point, and with every counter at zero.
-/
module

public import proofs.«01_k».proof.Proof.Grid
public import Idealize.ShloMosaic.Lib.Pipeline.CollectiveSegs

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat BodyObligation)

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

theorem kcell_eq {a b : Dev nD} {k j : Fin 9} : (kcell (a, k) = kcell (b, j)) = (a = b ∧ k = j) :=
  propext ⟨fun h => by have := kcell_injective h; exact ⟨congrArg Prod.fst this, congrArg Prod.snd this⟩, fun ⟨h, h'⟩ => by rw [h, h']⟩

def allCells : Finset (GSem nD τ sig) := Finset.univ.map ⟨kcell, kcell_injective⟩

abbrev tokOf (ck : Dev nD × Fin 9) : GSem nD τ sig × ℕ × Unit := (kcell ck, 0, ())
theorem tokOf_injective : Function.Injective tokOf := fun a b h => kcell_injective (congrArg Prod.fst h)
def allToks : Finset (GSem nD τ sig × ℕ × Unit) := Finset.univ.map ⟨tokOf, tokOf_injective⟩

def u₀ : UU F :=
  (initOf (Pipeline.cells cfgs cellOf_inj) (Pipeline.launchToks cfgs cellOf_inj), (initOf allCells allToks, wm₀ nD τ sig (Elt F)))

/-- Both halves of the devices' own component. -/
theorem own_two (b : UB) (w : UW F) : (BI.own (embR (A := UR sig nD τ) (b, w)) : sProp (MM F)) ⊢ iprop(BI.own (ER (b)) ∗ ownU (EW (F := F) w)) :=
  BI.own_op_elim ((embR : Emb (UB × UW F) (MM F)).op_of_mem (Prod.mk_mem_op (URA.mem_op_one b) (URA.mem_one_op w)))

/-- What the launch element deals device `c`. -/
def G (c : Dev nD) : sProp (MM F) :=
  iprop((bigSep Finset.univ fun k : Fin 9 => roundState ER (Rd (blks m)) (kcell (c, k)) 0)
    ∗ (bigSep Finset.univ fun k : Fin 9 => iprop(atPos ER (kcell (c, k)) 0 ∅ 0 ∗ reached ER (kcell (c, k)) 0))
    ∗ (bigSep Finset.univ fun k : Fin 9 => dutyTok ER (kcell (c, k)) 0 ())
    ∗ (if c = 0 then ownU (EW (F := F) (wm₀ nD τ sig (Elt F))) else iprop(emp)))

theorem fund : iprop(BI.own (ER (F := F) (initOf allCells allToks)) ∗ ownU (EW (F := F) (wm₀ nD τ sig (Elt F)))) ⊢ (|==> bigSep Finset.univ (G m) : sProp (MM F)) := by
  have hX (Φ : GSem nD τ sig → sProp (MM F)) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp (MM F))) = bigSep Finset.univ fun c : Dev nD => bigSep Finset.univ fun k : Fin 9 => dutyTok ER (kcell (c, k)) 0 () := by
    unfold allToks; rw [bigSep_map, bigSep_univ_prod]; rfl
  have hW : (ownU (EW (F := F) (wm₀ nD τ sig (Elt F))) : sProp (MM F)) ⊢ bigSep Finset.univ fun c : Dev nD => (if c = 0 then ownU (EW (F := F) (wm₀ nD τ sig (Elt F))) else iprop(emp)) := by
    rw [bigSep_univ_at _ (0 : Dev nD), if_pos rfl, bigSep_congr (s := Finset.univ.erase (0 : Dev nD)) (Ψ := fun _ => iprop(emp)) (fun c hc => if_neg (Finset.ne_of_mem_erase hc))]
    iintro H
    isplitl [H]; · iexact H
    iapply (Entails.of_eq (bigSep_emp_const (M := MM F) (Finset.univ.erase (0 : Dev nD))).symm); iempintro
  iintro ⟨HX, HW⟩
  imod (Rounds.fund ER (Rd (blks m)) allCells allToks) $$ HX with ⟨Hst, Hr, Hat, Htok⟩
  imodintro
  ihave Hst' := (Entails.of_eq (hX fun g => roundState ER (Rd (blks m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HW' := hW $$ HW
  unfold G; simp only [bigSep_sep']
  isplitl [Hst']; · iexact Hst'
  isplitl [Hat' Hr']
  · isplitl [Hat'] <;> iassumption
  isplitl [Htok']; · iexact Htok'
  iexact HW'

/-! ## The counters -/

theorem ownSems0_eq (c : Dev nD) : (Pipeline.ownSems0 (Ix := Unit) (Name := ℕ) (U := UU F) (Lvl := ℕ) (Val := Elt F) (τ := τ) osem c : sProp (MM F))
    = iprop(zs c 1 ∗ zs c 2 ∗ zs c 3 ∗ zs c 4 ∗ zs c 5 ∗ zs c 6 ∗ zs c 7 ∗ zs c 8) := by
  rw [Pipeline.ownSems0_eq_of_list c osem [0, 1, 2, 3, 4, 5, 6, 7] (by decide) (by decide)]; rfl
theorem unscopedSems0_eq (c : Dev nD) : (unscopedSems0 c : sProp (MM F)) = zs c 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU F) (Lvl := ℕ) (Val := Elt F) (τ := τ) osem c ∗ unscopedSems0 c)
      ⊢ (bigSep Finset.univ fun k : Fin 9 => semVal (kcell (c, k)) 0 : sProp (MM F)) := by
  rw [ownSems0_eq, unscopedSems0_eq, bigSep_univ_eq_bigSepL [1, 2, 3, 4, 5, 6, 7, 8, 0] (by decide) (by decide) (fun k : Fin 9 => (semVal (kcell (c, k)) 0 : sProp (MM F)))]
  show _ ⊢ iprop(zs c 1 ∗ zs c 2 ∗ zs c 3 ∗ zs c 4 ∗ zs c 5 ∗ zs c 6 ∗ zs c 7 ∗ zs c 8 ∗ zs c 0)
  iintro ⟨⟨H1, H2, H3, H4, H5, H6, H7, H8⟩, H0⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H0

/-! ## Every cell's invariant, and write mode's -/

/-- A device's share once its cells' invariants stand. -/
def A (c : Dev nD) : sProp (MM F) :=
  iprop((bigSep Finset.univ fun k => iprop(∃ κ : ℕ, cellInv ER (Rd (blks m)) κ (kcell (c, k))))
    ∗ (bigSep Finset.univ fun k : Fin 9 => iprop(atPos ER (kcell (c, k)) 0 ∅ 0 ∗ reached ER (kcell (c, k)) 0))
    ∗ (bigSep Finset.univ fun k : Fin 9 => dutyTok ER (kcell (c, k)) 0 ())
    ∗ (if c = 0 then ownU (EW (F := F) (wm₀ nD τ sig (Elt F))) else iprop(emp)))

theorem core_alloc (c : Dev nD) :
    iprop(Pipeline.ownSems0 (Ix := Unit) (Name := ℕ) (U := UU F) (Lvl := ℕ) (Val := Elt F) (τ := τ) osem c ∗ unscopedSems0 c ∗ G m c)
      ⊢ |={Set.univ}=> A m c := by
  unfold G A
  iintro ⟨Hos, Hus, Hst, Hrest⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (Rd (blks m)) (kcell (c, k)) 0)
      ⊢ (|={Set.univ}=> bigSep Finset.univ fun k => iprop(∃ κ : ℕ, cellInv ER (Rd (blks m)) κ (kcell (c, k))) : sProp (MM F)) from by
        rw [← bigSep_sep']
        exact (bigSep_mono fun k _ => (Rounds.body_intro ER (Rd (blks m)) (kcell (c, k))).trans inv_alloc).trans (bigSep_fupd _ _)) $$ [Hv Hst] with Hinv
  · isplitl [Hv] <;> iassumption
  imodintro
  isplitl [Hinv]; · iexact Hinv
  iexact Hrest

def records (κ : ℕ) (K : Dev nD × Fin 9 → ℕ) : sProp (MM F) :=
  iprop(wmI κ ∗ (bigSep Finset.univ fun ck : Dev nD × Fin 9 => cellInv ER (Rd (blks m)) (K ck) (kcell ck))
    ∗ bigSep Finset.univ fun ck : Dev nD × Fin 9 => reached ER (kcell ck) 0)

instance records_persistent (κ : ℕ) (K : Dev nD × Fin 9 → ℕ) : BI.Persistent (records m κ K) := by unfold records; infer_instance

/-- What stays with device `c`: its positions, and the tokens of what it pays. -/
def linear (c : Dev nD) : sProp (MM F) := iprop((bigSep Finset.univ fun k : Fin 9 => pos c k) ∗ bigSep Finset.univ fun k : Fin 9 => tok c k)

def G' (c : Dev nD) : sProp (MM F) := iprop((∃ κ K, records m κ K) ∗ linear c)

/-- The tokens go to the devices that pay. -/
theorem toks_around : (bigSep Finset.univ fun c : Dev nD => bigSep Finset.univ fun k : Fin 9 => (dutyTok ER (kcell (c, k)) 0 () : sProp (MM F)))
    = bigSep Finset.univ fun c : Dev nD => bigSep Finset.univ fun k : Fin 9 => tok c k := by
  let e : Dev nD × Fin 9 ≃ Dev nD × Fin 9 :=
    ⟨fun ck => (dest ck.1 ck.2, ck.2), fun ck => (dest ck.1 ck.2, ck.2), fun ck => Prod.ext (dest_dest _ _) rfl, fun ck => Prod.ext (dest_dest _ _) rfl⟩
  rw [← bigSep_univ_prod (fun ck : Dev nD × Fin 9 => (dutyTok ER (kcell ck) 0 () : sProp (MM F))), bigSep_univ_equiv e, bigSep_univ_prod]
  rfl

theorem bigSep_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (κ : ℕ) (K : Dev nD × Fin 9 → ℕ) (c : Dev nD) : iprop(records m κ K ∗ linear c) ⊢ G' m c := by
  unfold G'
  iintro ⟨#HR, HL⟩
  isplitr [HL]; · iexists κ, K; iexact HR
  iexact HL

theorem regroup (ρ : Dev nD → PrngReg) : (bigSep Finset.univ (A m) : sProp (MM F)) ⊢ |={Set.univ}=> bigSep Finset.univ (G' m) := by
  unfold A
  rw [bigSep_sep', bigSep_sep', bigSep_sep', ← bigSep_univ_prod (fun ck : Dev nD × Fin 9 => iprop(∃ κ : ℕ, cellInv ER (Rd (blks m)) κ (kcell ck))),
    bigSep_congr (s := Finset.univ) (fun (c : Dev nD) _ => bigSep_sep' Finset.univ (fun k : Fin 9 => (atPos ER (kcell (c, k)) 0 ∅ 0 : sProp (MM F))) (fun k => reached ER (kcell (c, k)) 0)),
    bigSep_sep', ← bigSep_univ_prod (fun ck : Dev nD × Fin 9 => (reached ER (kcell ck) 0 : sProp (MM F))), toks_around,
    bigSep_univ_at (fun c : Dev nD => (if c = 0 then ownU (EW (F := F) (wm₀ nD τ sig (Elt F))) else iprop(emp))) 0, if_pos rfl]
  iintro ⟨HI, ⟨Hat, #HR⟩, Htok, ⟨HW, -⟩⟩
  imod (wmInv_alloc (Ix := Unit) (Lvl := ℕ) (emb := EW (F := F)) (s₀ m ρ)) $$ HW with ⟨%κ, -, #HW⟩
  ihave HK := (BI.bigSep_exists_pi Finset.univ (fun (ck : Dev nD × Fin 9) (κ : ℕ) => (cellInv ER (Rd (blks m)) κ (kcell ck) : sProp (MM F)))) $$ HI
  icases HK with ⟨%K, #HI⟩
  imodintro
  iapply (bigSep_persistent (R := records m κ K) fun c _ => ghost_intro m κ K c)
  isplitr
  · unfold records
    isplitr; · iexact HW
    isplitr; · iexact HI
    iexact HR
  · unfold linear
    rw [bigSep_sep']
    isplitl [Hat]; · iexact Hat
    iexact Htok

theorem glob (ρ : Dev nD → PrngReg) : (bigSep Finset.univ fun c => iprop(Pipeline.ownSems0 (Ix := Unit) (Name := ℕ) (U := UU F) (Lvl := ℕ) (Val := Elt F) (τ := τ) osem c ∗ unscopedSems0 c ∗ G m c) : sProp (MM F))
    ⊢ |={Set.univ}=> bigSep Finset.univ (G' m) := by
  iintro H
  imod (show _ ⊢ |={Set.univ}=> bigSep Finset.univ (A m) from (bigSep_mono fun c _ => core_alloc m c).trans (bigSep_fupd _ _)) $$ H with H
  iapply (regroup m ρ); iexact H

/-! ## The launch credit -/

/-- What every device owes at the start. -/
abbrev O₀ (c : Dev nD) : CellTallies nD τ sig Unit := Ow c [0, 5, 6, 7, 8]

theorem Ow_apply (d c : Dev nD) (k : Fin 9) : ∀ ks : List (Fin 9), ks.Nodup → Ow d ks (kcell (c, k)) () = if k ∈ ks ∧ c = dest d k then amt k else 0
  | [], _ => rfl
  | j :: ks, h => by
    unfold Ow
    rw [Pi.add_apply, Finsupp.add_apply, Ow_apply d c k ks (List.nodup_cons.mp h).2, tallyAt_apply]
    simp only [kcell_eq]
    by_cases hk : k = j
    · subst hk
      simp [(List.nodup_cons.mp h).1]
    · simp [hk]

theorem launch_k (c : Dev nD) (k : Fin 9) (hk : k ∈ [(0 : Fin 9), 5, 6, 7, 8]) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => (Ow_apply d c k _ (by decide)).trans
      (if_congr (show (k ∈ [(0 : Fin 9), 5, 6, 7, 8] ∧ c = dest d k) ↔ d = dest c k from
        ⟨fun h => by rw [h.2, dest_dest], fun h => ⟨hk, by rw [h, dest_dest]⟩⟩) rfl rfl),
    Finset.sum_ite_eq' Finset.univ (dest c k) fun _ => amt k, if_pos (Finset.mem_univ _)]

theorem creds (c : Dev nD) : (Pipeline.launchCred O₀ c : sProp (MM F)) ⊢ iprop(crd c 0 ∗ crd c 5 ∗ crd c 6 ∗ crd c 7 ∗ crd c 8) := by
  unfold Pipeline.launchCred
  have h (k : Fin 9) (hk : k ∈ [(0 : Fin 9), 5, 6, 7, 8].toFinset) :
      (cred (tallyOn (kcell (c, k)) (launchCredit (Pipeline.owing O₀) 0 (kcell (c, k)))) : sProp (MM F)) = crd c k := by
    rw [launch_k c k (List.mem_toFinset.mp hk)]; rfl
  refine (BI.bigSep_subset (t := ([(0 : Fin 9), 5, 6, 7, 8].toFinset).map ⟨csem, csem_injective⟩) (Finset.subset_univ _)).trans ?_
  rw [BI.bigSep_map]
  exact (Entails.of_eq (bigSep_congr (Ψ := fun k => crd c k) h)).trans (Entails.of_eq (bigSep_eq_bigSepL_of_eq [0, 5, 6, 7, 8] rfl (by decide) (fun k => crd c k)))

/-! ## The side conditions -/

/-- The nine kinds in the order in which the kernel comes to them. -/
theorem nine (Φ : Fin 9 → sProp (MM F)) : bigSep Finset.univ Φ = iprop(Φ 0 ∗ Φ 1 ∗ Φ 5 ∗ Φ 2 ∗ Φ 6 ∗ Φ 3 ∗ Φ 7 ∗ Φ 4 ∗ Φ 8) :=
  bigSep_univ_eq_bigSepL [0, 1, 5, 2, 6, 3, 7, 4, 8] (by decide) (by decide) Φ

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (blks m) c ∗ emp) := by
  iintro ⟨-, #Hlev, Hcr, -, HG⟩
  ihave Hc := (creds (F := F) c) $$ Hcr
  unfold G' linear records
  icases HG with ⟨⟨%κ, %K, #HW, #HI, #HR⟩, Hp, Ht⟩
  imodintro
  isplitl
  · unfold start ctx
    isplitr
    · iexists κ, K
      isplitr; · iexact HW
      isplitr; · iexact HI
      isplitr; · iexact HR
      iexact Hlev
    isplitl [Hp]
    · iapply (Entails.of_eq (nine (fun k : Fin 9 => (pos c k : sProp (MM F))))); iexact Hp
    isplitl [Ht]
    · iapply (Entails.of_eq (nine (fun k : Fin 9 => (tok c k : sProp (MM F))))); iexact Ht
    iexact Hc
  · iempintro

theorem scratch_eq (c : Dev nD) : (scratch c : sProp (MM F)) = Pipeline.scopedRest cfg0.spec c := by
  rw [scopedRest0_eq]; unfold scratch
  simp only [owns_whole]
  rfl

theorem phi0_intro (c : Dev nD) :
    iprop(start (blks m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = inv m c 0 from rfl, inv_zero, scratch_eq]
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = inv m c cfg0.N from rfl, show cfg0.N = 12 from N_0, inv_done, ownSems0_eq, unscopedSems0_eq]
  unfold done
  rw [scratch_eq]
  iintro ⟨⟨H0, H⟩, Hr⟩
  isplitl [H0]; · iexact H0
  isplitl [H]; · iexact H
  iexact Hr

theorem owe_list (c : Dev nD) (n : ℕ) : ∃ ks : List (Fin 9), owe c n = Ow c ks ∧ ∀ j ∈ ks, 0 < lvl j := by
  unfold owe
  split
  · exact ⟨_, rfl, by decide⟩
  split
  · exact ⟨_, rfl, by decide⟩
  · exact ⟨_, rfl, by decide⟩

theorem waits (c : Dev nD) : (levAts L lv : sProp (MM F)) ⊢ Pipeline.cellsWaits cfgs (dats m ρ) () 0 c :=
  Pipeline.cellsWaits_intro cfgs (dats m ρ) () 0 c fun w s t => by
    obtain ⟨ks, h, hk⟩ := owe_list c t.val
    rw [show (dats m ρ 0 c).owed t = owe c t.val from rfl, h]
    exact mayWait c _ 0 (by fin_cases w <;> fin_cases s <;> decide) ks hk

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the mesh ends, every array at its computed contents
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_two (F := F) _ _) $$ HX
      imod (fund m) $$ HX with HG
      imodintro
      isplitl [HP] <;> iassumption)
    (hglob := glob m ρ)
    (hA := fun _ _ => rfl) (hpf := fun _ k => k.elim0)
    (X := start (blks m)) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoE

end
-- ==== Proof.Frames.lean ====
/-
# The frames

The idealised kernel's frame from the run of the mesh, the reference's from its own run, and the one rewrite of the
idealisation.
-/
module

public import proofs.«01_k».proof.Proof.Launch
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Defs

@[expose] public section

noncomputable section

namespace Cert.MoE

open Idealize.ShloMosaic Idealize.ShloMosaic.TcCoe Idealize.SL.Sem

section Ideal

open Cert.KernelIdeal Cert.KernelIdeal.Gen

variable {F : FTy → Type} [FloatOps F] [Named F]
variable (m : (ℓ : Loc nD τ sig) → Buf (Elt F) ℓ) (ρ : Dev nD → PrngReg)

theorem final_arg0 (c : Dev nD) : finalA m ρ c 0 = m ((c.tc : Thread nD τ).loc main_arg0) := (dats m ρ 0 c).arrAt_in 0 rfl _
theorem final_arg1 (c : Dev nD) : finalA m ρ c 1 = m ((c.tc : Thread nD τ).loc main_arg1) := (dats m ρ 0 c).arrAt_in 1 rfl _
theorem final_arg2 (c : Dev nD) : finalA m ρ c 2 = m ((c.tc : Thread nD τ).loc main_arg2) := (dats m ρ 0 c).arrAt_in 2 rfl _
theorem final_arg3 (c : Dev nD) : finalA m ρ c 3 = m ((c.tc : Thread nD τ).loc main_arg3) := (dats m ρ 0 c).arrAt_in 3 rfl _

/-- The run, its values dropped: the arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (final_arg0 m ρ c), (h.1 c 1).trans (final_arg1 m ρ c),
    (h.1 c 2).trans (final_arg2 m ρ c), (h.1 c 3).trans (final_arg3 m ρ c)⟩, h.2⟩) (run_main m ρ)

end Ideal

theorem frame_pi : Cert.quiescent_KernelIdeal (hKernelIdeal := Cert.KernelIdeal.Gen.facts) := fun m g _ => frame_run m g
theorem frame_pi_pre : Cert.quiescent_KernelIdeal_pre_finite_KernelIdeal (hKernelIdeal := Cert.KernelIdeal.Gen.facts)
    (hPre_finite_KernelIdeal := Cert.Pre_finite_KernelIdeal.Gen.facts) := fun m g _ => frame_run m g

theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)
theorem frame_ri_pre : Cert.quiescent_ReferenceIdeal_pre_finite_ReferenceIdeal (hReferenceIdeal := Cert.ReferenceIdeal.Gen.facts)
    (hPre_finite_ReferenceIdeal := Cert.Pre_finite_ReferenceIdeal.Gen.facts) := fun m g _ => frame_ri m g trivial

theorem preserves : Cert.preserves_Kernel_KernelIdeal := IdealRules.named_const.statement _ _ _ _ _ rfl

end Cert.MoE

end
-- ==== Proof.Bits.lean ====
/-
# The frame of the kernel as printed

At the bit-exact instance a named constant may be read as its own pattern. So read, the idealised kernel is the kernel as
printed, and its run is the printed kernel's.
-/
module

public import proofs.«01_k».proof.Proof.Frames
public import proofs.«01_k».proof.Proof.Gen.Kernel

@[expose] public section

noncomputable section

namespace Cert.MoE

open Idealize.ShloMosaic Idealize.ShloMosaic.TcCoe Idealize.SL.Sem

/-- A named constant read as its own pattern. -/
@[reducible] def named0 : Named Bits := ⟨fun _ _ {φ} b => FloatOps.ofBits φ b⟩

attribute [local instance] named0
attribute [local instance] Cert.Kernel.Gen.facts Cert.KernelIdeal.Gen.facts

set_option maxHeartbeats 400000

theorem part1_eq : Cert.Kernel.k0_part1 (F := Bits) = Cert.KernelIdeal.k0_part1 (F := Bits) := rfl
theorem part2_eq : Cert.Kernel.k0_part2 (F := Bits) = Cert.KernelIdeal.k0_part2 (F := Bits) := rfl
theorem part3_eq : Cert.Kernel.k0_part3 (F := Bits) = Cert.KernelIdeal.k0_part3 (F := Bits) := rfl
theorem part4_eq : Cert.Kernel.k0_part4 (F := Bits) = Cert.KernelIdeal.k0_part4 (F := Bits) := rfl
theorem part5_eq : Cert.Kernel.k0_part5 (F := Bits) = Cert.KernelIdeal.k0_part5 (F := Bits) := rfl
theorem part6_eq : Cert.Kernel.k0_part6 (F := Bits) = Cert.KernelIdeal.k0_part6 (F := Bits) := rfl
theorem body_eq : Cert.Kernel.cc0__body (F := Bits) = Cert.KernelIdeal.cc0__body (F := Bits) := rfl

theorem defs₀_eq : Cert.Kernel.defs₀ (F := Bits) = Cert.KernelIdeal.defs₀ (F := Bits) :=
  congrArg Defs.onTc (funext fun a => funext fun x => by
    match a, x with
    | 0, (t, s) =>
      dsimp only
      rw [body_eq]
      rfl)

theorem defs_eq : Cert.Kernel.defs (F := Bits) = Cert.KernelIdeal.defs (F := Bits) :=
  congrArg (Pipeline.defs (Cert.KernelIdeal.pcfgs (F := Bits))) defs₀_eq

theorem main_eq : Cert.Kernel.main (F := Bits) = Cert.KernelIdeal.main (F := Bits) := rfl

theorem frame_p : Cert.quiescent_Kernel (hKernel := Cert.Kernel.Gen.facts) := fun m g _ => by
  rw [defs_eq, main_eq]
  exact frame_run (F := Bits) m g

end Cert.MoE

end
-- ==== Proof.TopTwo.lean ====
/-
# The two greatest gates of a token

A token's eight gates as a function of the expert. `First g a` and `Second g a b` say which experts a token is
routed to: the greatest gate, of equal ones the lowest expert, and the greatest among the others. The kernel finds
them by a maximum, the lowest lane that holds it, and the same again with that lane masked; the reference sorts.
Both give the token's two weights, `weight`.
-/
module

public import proofs.«01_k».proof.Proof.Contents
public import Idealize.ShloMosaic.Lib.Pointwise
public import Idealize.ShloMosaic.Lib.IdealHost
public import Idealize.ShloMosaic.Lib.SortNet.Extract
public import Idealize.ShloMosaic.Lib.PlanTiles.StableSort

@[expose] public section

set_option maxRecDepth 16384

noncomputable section

namespace Cert.MoE

open Cert.KernelIdeal Cert.KernelIdeal.Gen
open Idealize.ShloMosaic

/-! ## The experts of a token -/

def First (g : Fin 8 → EReal) (a : Fin 8) : Prop := ∀ e, e ≠ a → g e < g a ∨ (g e = g a ∧ a < e)
def Second (g : Fin 8 → EReal) (a b : Fin 8) : Prop := b ≠ a ∧ ∀ e, e ≠ a → e ≠ b → g e < g b ∨ (g e = g b ∧ b < e)

/-- The exponential that both weights are made of. -/
def odds (g : Fin 8 → EReal) (a b : Fin 8) : EReal := Ideal.exp (g b - g a)
/-- The weight of expert `e` for a token routed to `a` and `b`. -/
def weight (g : Fin 8 → EReal) (a b e : Fin 8) : EReal :=
  if e = a then Ideal.div 1 (1 + odds g a b) else if e = b then Ideal.div (odds g a b) (1 + odds g a b) else 0

section
variable {g : Fin 8 → EReal} {a b : Fin 8}

theorem First.le (h : First g a) (e : Fin 8) : g e ≤ g a := by
  by_cases he : e = a
  · rw [he]
  · rcases h e he with h | ⟨h, -⟩
    · exact h.le
    · exact h.le
theorem First.low (h : First g a) {e : Fin 8} (he : g e = g a) : a ≤ e := by
  by_cases h' : e = a
  · rw [h']
  · rcases h e h' with h | ⟨-, h⟩
    · exact absurd he h.ne
    · exact h.le

theorem odds_coe (hr : ∀ k, ∃ x : ℝ, g k = x) : ∃ t : ℝ, 0 < t ∧ odds g a b = t := by
  obtain ⟨x, hx⟩ := hr a
  obtain ⟨y, hy⟩ := hr b
  refine ⟨Real.exp (y - x), Real.exp_pos _, ?_⟩
  unfold odds
  rw [hx, hy, ← EReal.coe_sub, Ideal.exp_coe]

theorem div_coe_coe (x : ℝ) {y : ℝ} (h : y ≠ 0) : Ideal.div (x : EReal) (y : EReal) = ((x / y : ℝ) : EReal) := by
  rw [Ideal.div_coe h, ← EReal.coe_mul]; congr 1; ring

/-- A weight is a real number that is not negative. -/
theorem weight_coe (hr : ∀ k, ∃ x : ℝ, g k = x) (e : Fin 8) : ∃ c : ℝ, 0 ≤ c ∧ weight g a b e = c := by
  obtain ⟨t, ht, he⟩ := odds_coe (a := a) (b := b) hr
  have h1 : (1 + t : ℝ) ≠ 0 := by positivity
  have hs : (1 : EReal) + (t : EReal) = ((1 + t : ℝ) : EReal) := by rw [EReal.coe_add, EReal.coe_one]
  unfold weight; rw [he, hs]
  split
  · exact ⟨1 / (1 + t), by positivity, by rw [← EReal.coe_one, div_coe_coe 1 h1]⟩
  split
  · exact ⟨t / (1 + t), by positivity, div_coe_coe t h1⟩
  · exact ⟨0, le_refl _, EReal.coe_zero.symm⟩

/-- A weight goes over a sum. -/
theorem add_mul_weight (hr : ∀ k, ∃ x : ℝ, g k = x) (e : Fin 8) (u v : EReal) :
    u * weight g a b e + v * weight g a b e = (u + v) * weight g a b e := by
  obtain ⟨c, hc, h⟩ := weight_coe (a := a) (b := b) hr e
  rw [h]
  exact (EReal.right_distrib_of_nonneg_of_ne_top (EReal.coe_nonneg.mpr hc) (EReal.coe_ne_top c) u v).symm

/-! ## As the kernel finds them -/

/-- The lowest lane at which `p` holds, as the kernel computes it. -/
def lowest (p : Fin 8 → Prop) [DecidablePred p] : BitVec 32 :=
  Finset.univ.fold IntOp.minsi 2147483647#32 fun k => if p k then BitVec.ofNat 32 k.val else 8#32

theorem toInt_lane (k : Fin 8) : (BitVec.ofNat 32 k.val).toInt = k.val := by revert k; decide
theorem lane_inj (k l : Fin 8) : IntOp.cmpi .eq (BitVec.ofNat 32 k.val) (BitVec.ofNat 32 l.val) = if k = l then 1#1 else 0#1 := by
  revert k l; decide

theorem lowest_eq (p : Fin 8 → Prop) [DecidablePred p] (k : Fin 8) (h : p k) (hl : ∀ l, p l → k ≤ l) : lowest p = BitVec.ofNat 32 k.val := by
  have hk := k.isLt
  refine BitVec.toInt_inj.mp (le_antisymm ?_ ?_)
  · refine (Finset.fold_op_rel_iff_or (op := IntOp.minsi (w := 32)) (r := fun x y => y.toInt ≤ x.toInt) ?_).mpr (Or.inr ⟨k, Finset.mem_univ k, ?_⟩)
    · intro x y z; rw [SortNet.toInt_minsi]; exact min_le_iff
    · rw [if_pos h]
  · refine (Finset.fold_op_rel_iff_and (op := IntOp.minsi (w := 32)) (r := fun x y => x.toInt ≤ y.toInt) ?_).mpr ⟨?_, fun l _ => ?_⟩
    · intro x y z; rw [SortNet.toInt_minsi]; exact le_min_iff
    · rw [toInt_lane]; show (k.val : ℤ) ≤ 2147483647; omega
    · split
      · next h' => rw [toInt_lane, toInt_lane]; exact_mod_cast hl l h'
      · rw [toInt_lane]; show (k.val : ℤ) ≤ 8; omega

/-- The greatest gate, the lowest lane that holds it, and the gates with that lane masked. -/
def top (g : Fin 8 → EReal) : EReal := Finset.univ.fold max (Ideal.ofBits .f32 4286578688#32) g
def lane (g : Fin 8 → EReal) : BitVec 32 := lowest fun k => g k = top g
def masked (g : Fin 8 → EReal) (k : Fin 8) : EReal :=
  Scalar.select (IntOp.cmpi .eq (BitVec.ofNat 32 k.val) (lane g)) (Named.named (F := Ideal) κ "mask" (φ := .f32) 4048155338#32) (g k)
def odd2 (g : Fin 8 → EReal) : EReal := Ideal.exp (top (masked g) - top g)
def kweight (g : Fin 8 → EReal) (e : Fin 8) : EReal :=
  Scalar.select (IntOp.cmpi .eq (BitVec.ofNat 32 e.val) (lane g)) (Ideal.div 1 (1 + odd2 g)) 0
    + Scalar.select (IntOp.cmpi .eq (BitVec.ofNat 32 e.val) (lane (masked g))) (Ideal.div (odd2 g) (1 + odd2 g)) 0

theorem pay8_at (x : Vec Ideal S512x8 .f32) (r : Fin 512) (e : Fin 8) : k0_pay8 (F := Ideal) x (ix2 r e) = kweight (fun k => x (ix2 r k)) e := by
  pointwise [k0_pay8]
  rfl

theorem negInf : Ideal.ofBits .f32 4286578688#32 = (⊥ : EReal) := by simp [Ideal.ofBits, Ideal.ieee]
theorem mask_bot : Named.named (F := Ideal) κ "mask" (φ := .f32) 4048155338#32 = (⊥ : EReal) := rfl

theorem top_eq (hle : ∀ e, g e ≤ g a) : top g = g a := by
  unfold top; rw [negInf]
  refine le_antisymm ((Finset.fold_max_le _).mpr ⟨bot_le, fun e _ => hle e⟩) ?_
  exact (Finset.le_fold_max _).mpr (Or.inr ⟨a, Finset.mem_univ a, le_refl _⟩)
theorem lane_eq (hle : ∀ e, g e ≤ g a) (hl : ∀ e, g e = g a → a ≤ e) : lane g = BitVec.ofNat 32 a.val :=
  lowest_eq _ a (top_eq hle).symm fun e he => hl e (he.trans (top_eq hle))

theorem select_lane (k l : Fin 8) (u v : EReal) : Scalar.select (IntOp.cmpi .eq (BitVec.ofNat 32 k.val) (BitVec.ofNat 32 l.val)) u v = if k = l then u else v := by
  rw [lane_inj]; split <;> rfl

theorem kweight_eq (hr : ∀ k, ∃ x : ℝ, g k = x) (h1 : First g a) (h2 : Second g a b) (e : Fin 8) : kweight g e = weight g a b e := by
  have hl1 : lane g = BitVec.ofNat 32 a.val := lane_eq h1.le fun e he => h1.low he
  have hm (k : Fin 8) : masked g k = if k = a then ⊥ else g k := by
    unfold masked; rw [hl1, mask_bot, select_lane]
  have hmb : masked g b = g b := by rw [hm, if_neg h2.1]
  have hle : ∀ e, masked g e ≤ masked g b := by
    intro e; rw [hmb, hm]
    split
    · exact bot_le
    · next hea =>
      by_cases heb : e = b
      · rw [heb]
      · rcases h2.2 e hea heb with h | ⟨h, -⟩
        · exact h.le
        · exact h.le
  have hl2 : lane (masked g) = BitVec.ofNat 32 b.val := by
    refine lane_eq hle fun e he => ?_
    rw [hmb, hm] at he
    by_cases heb : e = b
    · rw [heb]
    by_cases hea : e = a
    · rw [if_pos hea] at he
      obtain ⟨x, hx⟩ := hr b
      rw [hx] at he
      exact absurd he.symm (EReal.coe_ne_bot x)
    · rw [if_neg hea] at he
      rcases h2.2 e hea heb with h | ⟨-, h⟩
      · exact absurd he h.ne
      · exact h.le
  have ho : odd2 g = odds g a b := by
    unfold odd2 odds; rw [top_eq h1.le, top_eq hle, hmb]
  unfold kweight weight
  rw [hl1, hl2, ho, select_lane, select_lane]
  by_cases hea : e = a
  · rw [if_pos hea, if_pos hea, if_neg (fun h => h2.1 (h.symm.trans hea)), add_zero]
  · rw [if_neg hea, if_neg hea, zero_add]
end

/-! ## As a sort finds them -/

/-- The experts in the order of a sort by descending gate. -/
def before (g : Fin 8 → EReal) (k l : Fin 8) : Bool := Ideal.cmp .ogt (g k) (g l) == 1#1
def pick (g : Fin 8 → EReal) (k : Fin 8) : Fin 8 := sortedFrom (before g) k

/-- How many experts have a lower gate. -/
def rank (g : Fin 8 → EReal) (k : Fin 8) : ℕ := (Finset.univ.filter fun l => g l < g k).card
theorem rank_mono (g : Fin 8 → EReal) {k l : Fin 8} (h : g k ≤ g l) : rank g k ≤ rank g l :=
  Finset.card_le_card fun i hi => by
    simp only [Finset.mem_filter, Finset.mem_univ, true_and] at hi ⊢
    exact hi.trans_le h
theorem rank_lt (g : Fin 8 → EReal) {k l : Fin 8} : rank g k < rank g l ↔ g k < g l := by
  constructor
  · intro h
    by_contra h'
    exact absurd (rank_mono g (not_lt.mp h')) (by omega)
  · intro h
    refine Finset.card_lt_card ⟨fun i hi => ?_, fun hs => ?_⟩
    · simp only [Finset.mem_filter, Finset.mem_univ, true_and] at hi ⊢
      exact hi.trans h
    · have := hs (x := k) (by simpa using h)
      simp at this
theorem rank_eq (g : Fin 8 → EReal) {k l : Fin 8} (h : rank g k = rank g l) : g k = g l := by
  refine le_antisymm ?_ ?_ <;> refine not_lt.mp fun h' => ?_ <;> have := (rank_lt g).mpr h' <;> omega

theorem before_eq (g : Fin 8 → EReal) : before g = fun k l => decide (rank g l < rank g k) := by
  funext k l
  unfold before Ideal.cmp
  by_cases h : g l < g k
  · simp [h, (rank_lt g).mpr h]
  · simp [h, mt (rank_lt g).mp h]

theorem pick_lex (g : Fin 8 → EReal) {i j : Fin 8} (h : i < j) : PlanTiles.Lex (rank g) (· < ·) (pick g i) (pick g j) := by
  have hp : (sortPositions 8 (before g)).Pairwise (PlanTiles.Lex (rank g) (· < ·)) := by
    unfold sortPositions; rw [before_eq]
    exact PlanTiles.pairwise_stableSort_lex (rank g) (· < ·) (List.finRange 8) (List.pairwise_lt_finRange 8)
  exact List.pairwise_iff_get.mp hp _ _ h

theorem pick_surj (g : Fin 8 → EReal) (e : Fin 8) : ∃ i, pick g i = e := by
  have : e ∈ sortPositions 8 (before g) := (perm_sortPositions 8 (before g)).mem_iff.mpr (List.mem_finRange e)
  obtain ⟨n, hn⟩ := List.get_of_mem this
  exact ⟨n.cast (length_sortPositions 8 (before g)), hn⟩

theorem pick_order (g : Fin 8 → EReal) {i j : Fin 8} (h : i < j) : g (pick g j) < g (pick g i) ∨ (g (pick g j) = g (pick g i) ∧ pick g i < pick g j) := by
  rcases pick_lex g h with h | ⟨h, h'⟩
  · exact Or.inl ((rank_lt g).mp h)
  · exact Or.inr ⟨(rank_eq g h).symm, h'⟩

theorem pick_ne (g : Fin 8 → EReal) {i j : Fin 8} (h : i < j) : pick g j ≠ pick g i := by
  intro e
  rcases pick_order g h with h | ⟨-, h⟩
  · rw [e] at h; exact lt_irrefl _ h
  · rw [e] at h; exact lt_irrefl _ h

theorem first_pick (g : Fin 8 → EReal) : First g (pick g 0) := by
  intro e he
  obtain ⟨i, rfl⟩ := pick_surj g e
  exact pick_order g (Fin.pos_iff_ne_zero.mpr fun h => he (by rw [h]))

theorem second_pick (g : Fin 8 → EReal) : Second g (pick g 0) (pick g 1) := by
  refine ⟨pick_ne g (by decide), fun e h0 h1 => ?_⟩
  obtain ⟨i, rfl⟩ := pick_surj g e
  refine pick_order g ?_
  have h0' : i ≠ 0 := fun h => h0 (by rw [h])
  have h1' : i ≠ 1 := fun h => h1 (by rw [h])
  clear h0 h1
  revert i; decide

/-- The weights of a token, from its gates alone. -/
abbrev wt (g : Fin 8 → EReal) (e : Fin 8) : EReal := weight g (pick g 0) (pick g 1) e

theorem kweight_wt {g : Fin 8 → EReal} (hr : ∀ k, ∃ x : ℝ, g k = x) (e : Fin 8) : kweight g e = wt g e :=
  kweight_eq hr (first_pick g) (second_pick g) e

end Cert.MoE

end
-- ==== Proof.Values.lean ====
/-
# What the kernel computes

The layer on the whole arrays, `moe`: a token's output is the sum over the eight experts of the expert's output times
the token's weight for it. With the blocks that the devices fetch read as parts of the whole arrays, a device's
result is `moe` on its half of the tokens: its accumulator adds its own four experts, one half of the hidden width
after the other, and the other four come from its pair.
-/
module

public import proofs.«01_k».proof.Proof.TopTwo

@[expose] public section

set_option maxRecDepth 16384

noncomputable section

namespace Cert.MoE

open Cert.KernelIdeal Cert.KernelIdeal.Gen
open Idealize.ShloMosaic

/-! ## The layer -/

/-- Row `r` of half `z` of the tokens, expert `l` of half `z` of the experts, hidden unit `f` of half `j` of the width. -/
def row (z : Fin 2) (r : Fin 512) : Fin 1024 := ⟨512 * z.val + r.val, by omega⟩
def lo (z : Fin 2) (l : Fin 4) : Fin 8 := ⟨4 * z.val + l.val, by omega⟩
def hu (j : Fin 2) (f : Fin 1024) : Fin 2048 := ⟨1024 * j.val + f.val, by omega⟩

/-- The whole arrays. -/
structure Arrays where
  X : (⟨2, ![1024, 1024]⟩ : Shape).Idx → EReal
  R : (⟨2, ![1024, 8]⟩ : Shape).Idx → EReal
  W1 : (⟨3, ![8, 1024, 2048]⟩ : Shape).Idx → EReal
  W2 : (⟨3, ![8, 2048, 1024]⟩ : Shape).Idx → EReal

namespace Arrays
variable (A : Arrays)

def gate (t : Fin 1024) (e : Fin 8) : EReal := ∑ k : Fin 1024, A.X (ix2 t k) * A.R (ix2 k e)
def hidden (e : Fin 8) (t : Fin 1024) (f : Fin 2048) : EReal := max (∑ k : Fin 1024, A.X (ix2 t k) * A.W1 (ix3 e k f)) 0
def expert (e : Fin 8) (t d : Fin 1024) : EReal := ∑ f : Fin 2048, A.hidden e t f * A.W2 (ix3 e f d)
def half (e : Fin 8) (j : Fin 2) (t d : Fin 1024) : EReal := ∑ f : Fin 1024, A.hidden e t (hu j f) * A.W2 (ix3 e (hu j f) d)
def moe (t d : Fin 1024) : EReal := ∑ e : Fin 8, A.expert e t d * wt (A.gate t) e
/-- What half `j` of expert `e` adds to a token's output. -/
def term (e : Fin 8) (j : Fin 2) (t d : Fin 1024) : EReal := A.half e j t d * wt (A.gate t) e

/-- The tokens and the router are finite. -/
def Finite : Prop := (∀ i, ∃ x : ℝ, A.X i = x) ∧ ∀ i, ∃ x : ℝ, A.R i = x

variable {A}

theorem sum_coe {n : ℕ} (u : Fin n → EReal) (h : ∀ k, ∃ x : ℝ, u k = x) : ∃ x : ℝ, ∑ k, u k = x := by
  refine Finset.sum_induction u (fun s => ∃ x : ℝ, s = x) ?_ ⟨0, EReal.coe_zero.symm⟩ fun k _ => h k
  rintro _ _ ⟨x, rfl⟩ ⟨y, rfl⟩
  exact ⟨x + y, (EReal.coe_add x y).symm⟩

theorem Finite.gate (h : A.Finite) (t : Fin 1024) (e : Fin 8) : ∃ x : ℝ, A.gate t e = x := by
  refine sum_coe _ fun k => ?_
  obtain ⟨x, hx⟩ := h.1 (ix2 t k)
  obtain ⟨y, hy⟩ := h.2 (ix2 k e)
  exact ⟨x * y, by rw [hx, hy, EReal.coe_mul]⟩

theorem half_add (e : Fin 8) (t d : Fin 1024) : A.half e 0 t d + A.half e 1 t d = A.expert e t d := by
  unfold half expert
  rw [Fin.sum_univ_two_halves 1024 1024 rfl]
  refine congrArg₂ (· + ·) (Finset.sum_congr rfl fun f _ => ?_) (Finset.sum_congr rfl fun f _ => ?_)
  · rw [show hu 0 f = (⟨f.val, by omega⟩ : Fin 2048) from Fin.ext (Nat.zero_add _)]
  · rfl

theorem Finite.term_add (h : A.Finite) (e : Fin 8) (t d : Fin 1024) : A.term e 0 t d + A.term e 1 t d = A.expert e t d * wt (A.gate t) e := by
  unfold term
  rw [add_mul_weight (h.gate t), half_add]
end Arrays

/-! ## The blocks as parts of the whole arrays -/

/-- The local expert and the half of the hidden width that a grid point computes. -/
def ex (n : ℕ) : Fin 4 := ⟨min (n / 2) 3, by omega⟩
def hn (n : ℕ) : Fin 2 := ⟨n % 2, by omega⟩

structure Parts (A : Arrays) (B : Blocks Ideal) : Prop where
  x : ∀ c r k, B.x c (ix2 r k) = A.X (ix2 (row (zc c) r) k)
  r : ∀ c k l, B.r c (ix2 k l) = A.R (ix2 k (lo (zc c) l))
  w1 : ∀ c n k f, n < 8 ∨ (10 ≤ n ∧ n < 12) → B.w1 c n (ix3 0 k f) = A.W1 (ix3 (lo (zc c) (ex n)) k (hu (hn n) f))
  w2 : ∀ c n f d, n < 8 ∨ (10 ≤ n ∧ n < 12) → B.w2 c n (ix3 0 f d) = A.W2 (ix3 (lo (zc c) (ex n)) (hu (hn n) f) d)

theorem getH_at {α : Type} (z : Fin 2) (f : S1024x1024.Idx → α) (r : Fin 512) (d : Fin 1024) : getH z f (ix2 r d) = f (ix2 (row z r) d) := by
  refine congrArg f (funext fun a => Fin.ext ?_)
  match a with
  | 0 => show 512 * z.val + 1 * r.val = 512 * z.val + r.val; omega
  | 1 => show 0 + 1 * d.val = d.val; omega
theorem getH4_at {α : Type} (z : Fin 2) (f : S1024x4.Idx → α) (r : Fin 512) (l : Fin 4) : getH4 z f (ix2 r l) = f (ix2 (row z r) l) := by
  refine congrArg f (funext fun a => Fin.ext ?_)
  match a with
  | 0 => show 512 * z.val + 1 * r.val = 512 * z.val + r.val; omega
  | 1 => show 0 + 1 * l.val = l.val; omega

theorem lane_sum (e : Fin 4) (u : Fin 4 → EReal) : (∑ l : Fin 4, Scalar.select (IntOp.cmpi .eq (BitVec.ofNat 32 l.val) (BitVec.ofNat 32 e.val)) (u l) 0) = u e := by
  have h (l : Fin 4) : IntOp.cmpi .eq (BitVec.ofNat 32 l.val) (BitVec.ofNat 32 e.val) = if l = e then 1#1 else 0#1 := by
    revert l e; decide
  have h' (l : Fin 4) : Scalar.select (IntOp.cmpi .eq (BitVec.ofNat 32 l.val) (BitVec.ofNat 32 e.val)) (u l) 0 = if l = e then u l else 0 := by
    rw [h]; split <;> rfl
  rw [Finset.sum_congr rfl fun l _ => h' l, Finset.sum_ite_eq' Finset.univ e u, if_pos (Finset.mem_univ e)]

theorem zw_eq (c : Dev nD) : zw c = BitVec.ofNat 32 (zc c).val := by revert c; decide
theorem zc_peer (c : Dev nD) : zc (peer c) = 1 - zc c := by revert c; decide

theorem eq_one {z : Fin 2} (h : z ≠ 0) : z = 1 := by revert z; decide
theorem select_zw {α : Type} (c : Dev nD) (u v : α) : Scalar.select (Scalar.cmpi .eq (zw c) 0#32) u v = if zc c = 0 then u else v := by
  rw [zw_eq]
  split
  · next h => rw [h]; rfl
  · next h => rw [eq_one h]; rfl

/-- A token's product with a column of the router. -/
def dots (x : Vec Ideal S512x1024 .f32) (a : Vec Ideal S1024x4 .f32) (r : Fin 512) (l : Fin 4) : EReal := ∑ k : Fin 1024, x (ix2 r k) * a (ix2 k l)

theorem pay7_at (w : BitVec 32) (x : Vec Ideal S512x1024 .f32) (a b : Vec Ideal S1024x4 .f32) (r : Fin 512) (e : Fin 8) :
    k0_pay7 (F := Ideal) w x a b (ix2 r e) = Scalar.select (Scalar.cmpi .eq w 0#32)
      (if h : e.val < 4 then dots x a r ⟨e.val, h⟩ else dots x b r ⟨e.val - 4, by omega⟩)
      (if h : e.val < 4 then dots x b r ⟨e.val, h⟩ else dots x a r ⟨e.val - 4, by omega⟩) := by
  pointwise [k0_pay7]
  rfl

/-- The products of one block of an expert, at one row and column. -/
def mlp (x : Fin 1024 → EReal) (u v : Fin 1024 → Fin 1024 → EReal) (d : Fin 1024) : EReal :=
  ∑ f : Fin 1024, max (∑ k : Fin 1024, x k * u k f) 0 * v f d

theorem pay1_at (w : BitVec 32) (x : Vec Ideal S512x1024 .bf16) (u v : Vec Ideal S1x1024x1024 .f32) (a b : Vec Ideal S512x4 .f32)
    (g : Vec Ideal S512x1024 .f32) (r : Fin 512) (d : Fin 1024) :
    k0_pay1 (F := Ideal) w lanes x u v a b g (ix2 r d) = g (ix2 r d)
      + mlp (fun k => x (ix2 r k)) (fun k f => u (ix3 0 k f)) (fun f d => v (ix3 0 f d)) d
        * Scalar.select (Scalar.cmpi .eq w 5#32) (a (ix2 r 3)) (b (ix2 r 3)) := by
  unfold mlp
  pointwise [k0_pay1, lanes]
  refine congrArg (g (ix2 r d) + ·) (congrArg (_ * ·) ?_)
  exact lane_sum 3 fun l => Scalar.select (Scalar.cmpi .eq w 5#32) (a (ix2 r l)) (b (ix2 r l))

theorem pay12_at (w : BitVec 32) (x : Vec Ideal S512x1024 .bf16) (u v : Vec Ideal S1x1024x1024 .f32) (a b : Vec Ideal S512x4 .f32)
    (g : Vec Ideal S512x1024 .f32) (r : Fin 512) (d : Fin 1024) :
    k0_pay12 (F := Ideal) w lanes x (k0_pay10 u) (k0_pay11 v) a b g (ix2 r d) = g (ix2 r d)
      + mlp (fun k => x (ix2 r k)) (fun k f => u (ix3 0 k f)) (fun f d => v (ix3 0 f d)) d
        * Scalar.select (Scalar.cmpi .eq w 0#32) (a (ix2 r 0)) (b (ix2 r 0)) := by
  unfold mlp
  pointwise [k0_pay12, k0_pay10, k0_pay11, lanes]
  refine congrArg (g (ix2 r d) + ·) (congrArg (_ * ·) ?_)
  exact lane_sum 0 fun l => Scalar.select (Scalar.cmpi .eq w 0#32) (a (ix2 r l)) (b (ix2 r l))

theorem pay2_at (e : Fin 4) (x : Vec Ideal S1024x1024 .bf16) (u v : Vec Ideal S1x1024x1024 .f32) (a : Vec Ideal S1024x4 .f32)
    (g : Vec Ideal S1024x1024 .f32) (r : Fin 1024) (d : Fin 1024) :
    k0_pay2 (F := Ideal) (BitVec.ofNat 32 e.val) x u v a g (ix2 r d) = g (ix2 r d)
      + mlp (fun k => x (ix2 r k)) (fun k f => u (ix3 0 k f)) (fun f d => v (ix3 0 f d)) d * a (ix2 r e) := by
  unfold mlp
  pointwise [k0_pay2]
  refine congrArg (g (ix2 r d) + ·) (congrArg (_ * ·) ?_)
  exact lane_sum e fun l => a (ix2 r l)

section
variable {A : Arrays} {B : Blocks Ideal} (h : Parts A B) (c : Dev nD)
include h

theorem xb_at (r : Fin 512) (k : Fin 1024) : xb B c (ix2 r k) = A.X (ix2 (row (zc c) r) k) := by
  rw [← h.x]; unfold xb; pointwise! [k0_pay5]

theorem gates_at (r : Fin 512) (e : Fin 8) : gates B c (ix2 r e) = A.gate (row (zc c) r) e := by
  have hs (c' : Dev nD) (l : Fin 4) (he : e = lo (zc c') l) : dots (B.x c) (B.r c') r l = A.gate (row (zc c) r) e := by
    unfold Arrays.gate dots
    exact Finset.sum_congr rfl fun k _ => by rw [h.x, h.r, he]
  unfold gates
  rw [pay7_at, select_zw]
  split_ifs with hz h' h' <;> refine hs _ _ (Fin.ext ?_) <;> try rw [zc_peer]
  · rw [hz]; simp [lo]
  · rw [hz]; simp [lo]; omega
  · rw [eq_one hz]; simp [lo]
  · rw [eq_one hz]; simp [lo]; omega

theorem pay8_gates (hf : A.Finite) (r : Fin 512) (e : Fin 8) : k0_pay8 (gates B c) (ix2 r e) = wt (A.gate (row (zc c) r)) e := by
  rw [pay8_at, ← kweight_wt (hf.gate _)]
  exact congrArg (kweight · e) (funext fun k => gates_at h c r k)

theorem cm_at (hf : A.Finite) (r : Fin 512) (l : Fin 4) : cm B c (ix2 r l) = wt (A.gate (row (zc c) r)) (lo (zc c) l) := by
  rw [← pay8_gates h c hf]
  unfold cm
  pointwise [k0_pay9]
  rw [select_zw]
  split_ifs with hz
  · exact congrArg (fun e => k0_pay8 (gates B c) (ix2 r e)) (Fin.ext (by rw [hz]; simp [lo]))
  · exact congrArg (fun e => k0_pay8 (gates B c) (ix2 r e)) (Fin.ext (by rw [eq_one hz]; simp [lo]))

theorem cs_at (hf : A.Finite) (r : Fin 512) (l : Fin 4) : cs B c (ix2 r l) = wt (A.gate (row (zc c) r)) (lo (zc (peer c)) l) := by
  rw [← pay8_gates h c hf]
  unfold cs
  pointwise [k0_pay13]
  rw [select_zw, zc_peer]
  split_ifs with hz
  · exact congrArg (fun e => k0_pay8 (gates B c) (ix2 r e)) (Fin.ext (by rw [hz]; simp [lo]))
  · exact congrArg (fun e => k0_pay8 (gates B c) (ix2 r e)) (Fin.ext (by rw [eq_one hz]; simp [lo]))

/-- The kept tokens and the kept weights, on the rows of either device of the pair. -/
theorem xf_at (z : Fin 2) (r : Fin 512) (k : Fin 1024) : xf B c (ix2 (row z r) k) = A.X (ix2 (row z r) k) := by
  refine (getH_at z (xf B c) r k).symm.trans ?_
  rcases (show z = zc c ∨ z = zc (peer c) by rw [zc_peer]; generalize zc c = y; revert z y; decide) with rfl | rfl
  · rw [getH_xf_own, xb_at h]
  · rw [getH_xf_opp, xb_at h]

theorem cf_at (hf : A.Finite) (z : Fin 2) (r : Fin 512) (l : Fin 4) : cf B c (ix2 (row z r) l) = wt (A.gate (row z r)) (lo (zc c) l) := by
  refine (getH4_at z (cf B c) r l).symm.trans ?_
  unfold cf
  rcases (show z = zc c ∨ z = zc (peer c) by rw [zc_peer]; generalize zc c = y; revert z y; decide) with rfl | rfl
  · rw [getH4_setH4_ne (zc_peer_ne c).symm, getH4_setH4, ← cm_at h c hf]
    pointwise! [k0_pay14]
  · rw [getH4_setH4]
    have := cs_at h (peer c) hf r l
    rw [peer_peer] at this
    rw [← this]
    pointwise! [k0_pay15]

/-- One half of an expert's output, from the blocks of a grid point. -/
theorem half_at {n : ℕ} (hn' : n < 8 ∨ (10 ≤ n ∧ n < 12)) (x : Fin 1024 → EReal) (t d : Fin 1024) (hx : ∀ k, x k = A.X (ix2 t k)) :
    mlp x (fun k f => B.w1 c n (ix3 0 k f)) (fun f d => B.w2 c n (ix3 0 f d)) d = A.half (lo (zc c) (ex n)) (hn n) t d := by
  unfold mlp Arrays.half Arrays.hidden
  refine Finset.sum_congr rfl fun f _ => ?_
  show max (∑ k, x k * B.w1 c n (ix3 0 k f)) 0 * B.w2 c n (ix3 0 f d) = _
  rw [h.w2 c n f d hn', Finset.sum_congr rfl fun k _ => by rw [hx k, h.w1 c n k f hn']]

/-! ## The accumulator's steps -/

variable (f : Vec Ideal S1024x1024 .f32) (r : Fin 512) (d : Fin 1024) (hf : A.Finite)
include hf

/-- Expert 0 on the own rows. -/
theorem step_own0 (t : ℕ) (ht : t < 2) :
    getH (zc c) (pstep B c t f) (ix2 r d) = getH (zc c) f (ix2 r d) + A.term (lo (zc c) 0) (hn t) (row (zc c) r) d := by
  unfold pstep
  rw [if_pos ht, getH_setH, pay12_at, half_at h c (n := t) (by omega) _ (row (zc c) r) d fun k => xb_at h c r k]
  unfold Arrays.term
  rw [← cm_at h c hf, show ex t = 0 from Fin.ext (by simp [ex]; omega)]
  rfl

/-- Experts 1 and 2 on all rows of the pair. -/
theorem step_all (t : ℕ) (h2 : 2 ≤ t) (h6 : t < 6) (z : Fin 2) :
    getH z (pstep B c t f) (ix2 r d) = getH z f (ix2 r d) + A.term (lo (zc c) (ex t)) (hn t) (row z r) d := by
  unfold pstep
  rw [if_neg (by omega), if_pos h6, getH_at, getH_at, show t / 2 = (ex t).val by simp [ex]; omega, pay2_at,
    half_at h c (n := t) (by omega) _ (row z r) d fun k => xf_at h c z r k, cf_at h c hf]
  rfl

/-- Expert 3 on the pair's rows. -/
theorem step_opp3 (t : ℕ) (h6 : 6 ≤ t) (h8 : t < 8) :
    getH (zc (peer c)) (pstep B c t f) (ix2 r d) = getH (zc (peer c)) f (ix2 r d) + A.term (lo (zc c) 3) (hn t) (row (zc (peer c)) r) d := by
  unfold pstep
  rw [if_neg (by omega), if_neg (by omega), if_pos h8, getH_setH, pay1_at,
    half_at h c (n := t) (by omega) _ (row (zc (peer c)) r) d fun k => (getH_at _ _ r k).trans (xf_at h c _ r k)]
  unfold Arrays.term
  have := cs_at h (peer c) hf r 3
  rw [peer_peer] at this
  rw [← this, show ex t = 3 from Fin.ext (by simp [ex]; omega)]
  rfl

/-- Expert 0 on the pair's rows, from the blocks kept at the first two points. -/
theorem step_opp0 (t : ℕ) (h8 : 8 ≤ t) (h10 : t < 10) :
    getH (zc (peer c)) (pstep B c t f) (ix2 r d) = getH (zc (peer c)) f (ix2 r d) + A.term (lo (zc c) 0) (hn t) (row (zc (peer c)) r) d := by
  unfold pstep
  rw [if_neg (by omega), if_neg (by omega), if_neg (by omega), if_pos h10, getH_setH, pay12_at,
    half_at h c (n := t - 8) (by omega) _ (row (zc (peer c)) r) d fun k => (getH_at _ _ r k).trans (xf_at h c _ r k)]
  unfold Arrays.term
  have := cs_at h (peer c) hf r 0
  rw [peer_peer] at this
  rw [← this, show ex (t - 8) = 0 from Fin.ext (by simp [ex]; omega), show hn (t - 8) = hn t from Fin.ext (by simp [hn]; omega)]
  rfl

/-- Expert 3 on the own rows. -/
theorem step_own3 (t : ℕ) (h10 : 10 ≤ t) (h12 : t < 12) :
    getH (zc c) (pstep B c t f) (ix2 r d) = getH (zc c) f (ix2 r d) + A.term (lo (zc c) 3) (hn t) (row (zc c) r) d := by
  unfold pstep
  rw [if_neg (by omega), if_neg (by omega), if_neg (by omega), if_neg (by omega), getH_setH, pay1_at,
    half_at h c (n := t) (by omega) _ (row (zc c) r) d fun k => (getH_at _ _ r k).trans (xf_at h c _ r k)]
  unfold Arrays.term
  rw [← cm_at h c hf, show ex t = 3 from Fin.ext (by simp [ex]; omega)]
  rfl

omit h hf in
/-- The rows of the other half stay. -/
theorem step_keep_opp (t : ℕ) (ht : t < 2 ∨ 10 ≤ t) : getH (zc (peer c)) (pstep B c t f) = getH (zc (peer c)) f := by
  unfold pstep
  rcases ht with ht | ht
  · rw [if_pos ht, getH_setH_ne (zc_peer_ne c)]
  · rw [if_neg (by omega), if_neg (by omega), if_neg (by omega), if_neg (by omega), getH_setH_ne (zc_peer_ne c)]
omit h hf in
theorem step_keep_own (t : ℕ) (h6 : 6 ≤ t) (h10 : t < 10) : getH (zc c) (pstep B c t f) = getH (zc c) f := by
  unfold pstep
  rw [if_neg (by omega), if_neg (by omega), if_pos h10]
  split
  · rw [getH_setH_ne (zc_peer_ne c).symm]
  · rw [getH_setH_ne (zc_peer_ne c).symm]
omit h hf in
theorem zero_at (z : Fin 2) : getH z (pacc B c 0) (ix2 r d) = 0 := by
  rw [getH_at]; unfold pacc; pointwise! [k0_pay6]

/-- What expert `l` of half `z` adds to a token's output. -/
def share (A : Arrays) (z : Fin 2) (l : Fin 4) (t d : Fin 1024) : EReal := A.expert (lo z l) t d * wt (A.gate t) (lo z l)

omit h in
theorem add_share (s : EReal) (z : Fin 2) (l : Fin 4) (t d : Fin 1024) : s + A.term (lo z l) 0 t d + A.term (lo z l) 1 t d = s + share A z l t d := by
  rw [add_assoc, hf.term_add]; rfl

theorem own_at : getH (zc c) (pacc B c 12) (ix2 r d)
    = share A (zc c) 0 (row (zc c) r) d + share A (zc c) 1 (row (zc c) r) d + share A (zc c) 2 (row (zc c) r) d + share A (zc c) 3 (row (zc c) r) d := by
  show getH (zc c) (pstep B c 11 (pstep B c 10 (pstep B c 9 (pstep B c 8 (pstep B c 7 (pstep B c 6 (pstep B c 5 (pstep B c 4 (pstep B c 3 (pstep B c 2
    (pstep B c 1 (pstep B c 0 (pacc B c 0))))))))))))) (ix2 r d) = _
  rw [step_own3 h c _ r d hf 11 (by decide) (by decide), step_own3 h c _ r d hf 10 (by decide) (by decide)]
  rw [step_keep_own c _ 9 (by decide) (by decide), step_keep_own c _ 8 (by decide) (by decide), step_keep_own c _ 7 (by decide) (by decide), step_keep_own c _ 6 (by decide) (by decide)]
  rw [step_all h c _ r d hf 5 (by decide) (by decide), step_all h c _ r d hf 4 (by decide) (by decide), step_all h c _ r d hf 3 (by decide) (by decide), step_all h c _ r d hf 2 (by decide) (by decide)]
  rw [step_own0 h c _ r d hf 1 (by decide), step_own0 h c _ r d hf 0 (by decide), zero_at]
  show 0 + A.term (lo (zc c) 0) 0 _ d + A.term (lo (zc c) 0) 1 _ d + A.term (lo (zc c) 1) 0 _ d + A.term (lo (zc c) 1) 1 _ d
    + A.term (lo (zc c) 2) 0 _ d + A.term (lo (zc c) 2) 1 _ d + A.term (lo (zc c) 3) 0 _ d + A.term (lo (zc c) 3) 1 _ d = _
  rw [add_share hf, add_share hf, add_share hf, add_share hf, zero_add]

theorem opp_at : getH (zc (peer c)) (pacc B c 10) (ix2 r d)
    = share A (zc c) 1 (row (zc (peer c)) r) d + share A (zc c) 2 (row (zc (peer c)) r) d + share A (zc c) 3 (row (zc (peer c)) r) d
      + share A (zc c) 0 (row (zc (peer c)) r) d := by
  show getH (zc (peer c)) (pstep B c 9 (pstep B c 8 (pstep B c 7 (pstep B c 6 (pstep B c 5 (pstep B c 4 (pstep B c 3 (pstep B c 2
    (pstep B c 1 (pstep B c 0 (pacc B c 0))))))))))) (ix2 r d) = _
  rw [step_opp0 h c _ r d hf 9 (by decide) (by decide), step_opp0 h c _ r d hf 8 (by decide) (by decide), step_opp3 h c _ r d hf 7 (by decide) (by decide), step_opp3 h c _ r d hf 6 (by decide) (by decide)]
  rw [step_all h c _ r d hf 5 (by decide) (by decide), step_all h c _ r d hf 4 (by decide) (by decide), step_all h c _ r d hf 3 (by decide) (by decide), step_all h c _ r d hf 2 (by decide) (by decide)]
  rw [step_keep_opp c _ 1 (by decide), step_keep_opp c _ 0 (by decide), zero_at]
  show 0 + A.term (lo (zc c) 1) 0 _ d + A.term (lo (zc c) 1) 1 _ d + A.term (lo (zc c) 2) 0 _ d + A.term (lo (zc c) 2) 1 _ d
    + A.term (lo (zc c) 3) 0 _ d + A.term (lo (zc c) 3) 1 _ d + A.term (lo (zc c) 0) 0 _ d + A.term (lo (zc c) 0) 1 _ d = _
  rw [add_share hf, add_share hf, add_share hf, add_share hf, zero_add]

omit h hf in
/-- The eight experts are the four of each half. -/
theorem moe_eq {z z' : Fin 2} (hz : z ≠ z') (t : Fin 1024) : A.moe t d
    = share A z 0 t d + share A z 1 t d + share A z 2 t d + share A z 3 t d + (share A z' 1 t d + share A z' 2 t d + share A z' 3 t d + share A z' 0 t d) := by
  unfold Arrays.moe
  rw [Fin.sum_univ_eight]
  rcases (show (z = 0 ∧ z' = 1) ∨ (z = 1 ∧ z' = 0) by revert z z'; decide) with ⟨rfl, rfl⟩ | ⟨rfl, rfl⟩
  · show share A 0 0 t d + share A 0 1 t d + share A 0 2 t d + share A 0 3 t d + share A 1 0 t d + share A 1 1 t d + share A 1 2 t d + share A 1 3 t d = _
    abel
  · show share A 0 0 t d + share A 0 1 t d + share A 0 2 t d + share A 0 3 t d + share A 1 0 t d + share A 1 1 t d + share A 1 2 t d + share A 1 3 t d = _
    abel

/-- A device's result is the layer on its half of the tokens. -/
theorem outv_at : outv B c (ix2 r d) = A.moe (row (zc c) r) d := by
  have hs : sbv B (peer c) (ix2 r d) = getH (zc c) (pacc B (peer c) 10) (ix2 r d) := by
    unfold sbv
    pointwise [k0_pay3]
    rw [peer_peer]
  have ho : outv B c (ix2 r d) = getH (zc c) (pacc B c 12) (ix2 r d) + sbv B (peer c) (ix2 r d) := by
    unfold outv; pointwise! [k0_pay4]
  have hp := opp_at h (peer c) r d hf
  rw [peer_peer] at hp
  rw [ho, hs, own_at h c r d hf, hp, moe_eq d (zc_peer_ne c).symm]
end

end Cert.MoE

end
-- ==== Proof.RefValue.lean ====
/-
# What the reference computes

The reference's result, read at a token and a column, is the layer `moe` on its own arguments: it sorts the gates, keeps
the first two, takes their softmax for the weights, and adds each expert's output where the expert is one of the two.
-/
module

public import proofs.«01_k».proof.Proof.Values
public import proofs.«01_k».proof.Proof.Gen.ReferenceIdeal.Run

@[expose] public section

set_option maxRecDepth 16384

noncomputable section

namespace Cert.MoE

open Cert.ReferenceIdeal Cert.ReferenceIdeal.Gen Cert.ReferenceIdeal.Value
open Idealize.ShloMosaic
open Idealize.SL.Sem

/-! ## The two weights -/

/-- The exponentials of two columns, less their greatest. -/
def exps (v : FVec Ideal S1024x2 .f32) : FVec Ideal S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))
/-- Their softmax. -/
def soft (v : FVec Ideal S1024x2 .f32) : FVec Ideal S1024x2 .f32 :=
  Host.divf (exps v) (broadcastInDim S1024x2 ![0, 1] bcast_S1024x1_S1024x2_0_1 (broadcastInDim S1024x1 ![0] bcast_S1024_S1024x1_0
    (Host.reduceAdd (exps v) (constant S_ .f32 0x00000000#32) reducesTo_S1024x2_S1024_d1 h_S_)))

theorem exps_at (v : FVec Ideal S1024x2 .f32) (t : Fin 1024) (i : Fin 2) :
    exps v (ix2 t i) = Ideal.exp (v (ix2 t i) - Finset.univ.fold max ⊥ fun j : Fin 2 => v (ix2 t j)) := by
  pointwise [exps]
  rw [negInf]
theorem soft_at (v : FVec Ideal S1024x2 .f32) (t : Fin 1024) (i : Fin 2) :
    soft v (ix2 t i) = Ideal.div (exps v (ix2 t i)) (exps v (ix2 t 0) + exps v (ix2 t 1)) := by
  pointwise [soft]
  rw [Fin.sum_univ_two]

theorem exp_self (x : ℝ) : Ideal.exp ((x : EReal) - (x : EReal)) = 1 := by
  rw [← EReal.coe_sub, sub_self, Ideal.exp_coe, Real.exp_zero, EReal.coe_one]

/-- With the two gates of a token in the columns these are its weights. -/
theorem soft_weight (g : Fin 8 → EReal) (hr : ∀ k, ∃ x : ℝ, g k = x) (v : FVec Ideal S1024x2 .f32) (t : Fin 1024)
    (h0 : v (ix2 t 0) = g (pick g 0)) (h1 : v (ix2 t 1) = g (pick g 1)) :
    soft v (ix2 t 0) = wt g (pick g 0) ∧ soft v (ix2 t 1) = wt g (pick g 1) := by
  have hle : g (pick g 1) ≤ g (pick g 0) := (first_pick g).le _
  have hmax : (Finset.univ.fold max ⊥ fun j : Fin 2 => v (ix2 t j)) = g (pick g 0) := by
    refine le_antisymm ((Finset.fold_max_le _).mpr ⟨bot_le, fun j _ => ?_⟩) ((Finset.le_fold_max _).mpr (Or.inr ⟨0, Finset.mem_univ _, h0.ge⟩))
    rcases (show j = 0 ∨ j = 1 by revert j; decide) with rfl | rfl
    · exact h0.le
    · exact h1.le.trans hle
  obtain ⟨x, hx⟩ := hr (pick g 0)
  have e0 : exps v (ix2 t 0) = 1 := by rw [exps_at, hmax, h0, hx, exp_self]
  have e1 : exps v (ix2 t 1) = odds g (pick g 0) (pick g 1) := by rw [exps_at, hmax, h1]; rfl
  rw [soft_at, soft_at, e0, e1]
  unfold wt weight
  rw [if_pos rfl, if_neg (second_pick g).1, if_pos rfl]
  exact ⟨rfl, rfl⟩

/-! ## The two experts -/

/-- A token's position in a sort along the experts. -/
theorem along_at (t : Fin 1024) (l k : Fin 8) : (ix2 t l : S1024x8.Idx).along 1 k = ix2 t k := by
  funext a
  match a with
  | 0 => rfl
  | 1 => rfl

theorem pick_at (x : FVec Ideal S1024x8 .f32) (t : Fin 1024) (l : Fin 8) :
    sortedFrom (fun k k' : Fin 8 => FloatOps.cmpfTotal .gt (x ((ix2 t l : S1024x8.Idx).along 1 k)) (x ((ix2 t l : S1024x8.Idx).along 1 k')) == 1#1) l
      = pick (fun k => x (ix2 t k)) l := by
  simp only [along_at]; rfl

theorem sort_at {β : Type} (x : FVec Ideal S1024x8 .f32) (y : S1024x8.Idx → β) (t : Fin 1024) (l : Fin 8) :
    (Host.sort2 S1024x8 1 (fun l r => FloatOps.cmpfTotal (F := Ideal) (φ := .f32) .gt l.1 r.1) x y).1 (ix2 t l) = x (ix2 t (pick (fun k => x (ix2 t k)) l))
    ∧ (Host.sort2 S1024x8 1 (fun l r => FloatOps.cmpfTotal (F := Ideal) (φ := .f32) .gt l.1 r.1) x y).2 (ix2 t l) = y (ix2 t (pick (fun k => x (ix2 t k)) l)) := by
  rw [← pick_at]
  exact ⟨congrArg x (along_at t l _), congrArg y (along_at t l _)⟩

theorem cut_at {α : Type} (y : S1024x8.Idx → α) (t : Fin 1024) (i : Fin 2) :
    extractStridedSlice S1024x2 (fun _ => 0) y sliceFits_S1024x8_S1024x2 (ix2 t i) = y (ix2 t (i.castLE (by decide))) := by
  refine congrArg y (funext fun a => Fin.ext ?_)
  match a with
  | 0 => exact Nat.zero_add _
  | 1 => exact Nat.zero_add _

theorem topK_at (x : FVec Ideal S1024x8 .f32) (t : Fin 1024) (i : Fin 2) :
    (Host.topK S1024x2 1 (FloatOps.cmpfTotal (F := Ideal) (φ := .f32) .gt) x sliceFits_S1024x8_S1024x2).1 (ix2 t i)
      = x (ix2 t (pick (fun k => x (ix2 t k)) (i.castLE (by decide))))
    ∧ (Host.topK S1024x2 1 (FloatOps.cmpfTotal (F := Ideal) (φ := .f32) .gt) x sliceFits_S1024x8_S1024x2).2 (ix2 t i)
      = BitVec.ofNat 32 (pick (fun k => x (ix2 t k)) (i.castLE (by decide))).val :=
  ⟨(cut_at _ t i).trans (sort_at x (fun i => iotaInDim S1024x8 32 1 i) t _).1, (cut_at _ t i).trans (sort_at x (fun i => iotaInDim S1024x8 32 1 i) t _).2⟩

/-! ## The result -/

variable (V : Valuation τ sig (Elt Ideal))

/-- The reference's arguments. -/
def argsOf : Arrays where
  X := V (Proc.devRef .tc main_arg0)
  R := V (Proc.devRef .tc main_arg1)
  W1 := V (Proc.devRef .tc main_arg2)
  W2 := V (Proc.devRef .tc main_arg3)

abbrev gatesR : FVec Ideal S1024x8 .f32 := res_main_v0 (F := Ideal) V
abbrev weightsR : FVec Ideal S1024x2 .f32 := res_main_v9 (F := Ideal) V
abbrev expertsR : IVec S1024x2 32 := res_main_indices (F := Ideal) V

theorem gatesR_at (t : Fin 1024) (e : Fin 8) : gatesR V (ix2 t e) = (argsOf V).gate t e := by
  unfold Arrays.gate argsOf
  pointwise! [gatesR, res_main_v0]
theorem gatesR_row (t : Fin 1024) : (fun k => gatesR V (ix2 t k)) = (argsOf V).gate t := funext fun k => gatesR_at V t k

theorem expertsR_at (t : Fin 1024) (i : Fin 2) : expertsR V (ix2 t i) = BitVec.ofNat 32 (pick ((argsOf V).gate t) (i.castLE (by decide))).val := by
  rw [← gatesR_row]; exact (topK_at (gatesR V) t i).2
theorem weightsR_at (hf : (argsOf V).Finite) (t : Fin 1024) :
    weightsR V (ix2 t 0) = wt ((argsOf V).gate t) (pick ((argsOf V).gate t) 0) ∧ weightsR V (ix2 t 1) = wt ((argsOf V).gate t) (pick ((argsOf V).gate t) 1) := by
  have hv (i : Fin 2) : (Host.topK S1024x2 1 (FloatOps.cmpfTotal (F := Ideal) (φ := .f32) .gt) (gatesR V) sliceFits_S1024x8_S1024x2).1 (ix2 t i)
      = (argsOf V).gate t (pick ((argsOf V).gate t) (i.castLE (by decide))) := by
    rw [← gatesR_row]; exact (topK_at (gatesR V) t i).1
  exact soft_weight _ (hf.gate t) _ t (hv 0) (hv 1)

/-- What the two columns of a token add for one expert. -/
theorem two_columns (hf : (argsOf V).Finite) (t : Fin 1024) (e : Fin 8) (y : EReal) :
    Scalar.select (IntOp.cmpi .eq (expertsR V (ix2 t 0)) (BitVec.ofNat 32 e.val)) (y * weightsR V (ix2 t 0)) 0
      + Scalar.select (IntOp.cmpi .eq (expertsR V (ix2 t 1)) (BitVec.ofNat 32 e.val)) (y * weightsR V (ix2 t 1)) 0
    = y * wt ((argsOf V).gate t) e := by
  rw [expertsR_at, expertsR_at, select_lane, select_lane, (weightsR_at V hf t).1, (weightsR_at V hf t).2]
  show (if pick ((argsOf V).gate t) 0 = e then _ else _) + (if pick ((argsOf V).gate t) 1 = e then _ else _) = _
  have hne := (second_pick ((argsOf V).gate t)).1
  by_cases h0 : pick ((argsOf V).gate t) 0 = e
  · rw [if_pos h0, if_neg (fun h1 => hne (h1.trans h0.symm)), add_zero, h0]
  by_cases h1 : pick ((argsOf V).gate t) 1 = e
  · rw [if_neg h0, if_pos h1, zero_add, h1]
  · rw [if_neg h0, if_neg h1, add_zero]
    unfold wt weight
    rw [if_neg (Ne.symm h0), if_neg (Ne.symm h1), mul_zero]

abbrev resultR : FVec Ideal S1024x1024 .f32 := res_main_v202 (F := Ideal) V

theorem zeroR : (id (constant S_ .f32 0#32 : FVec Ideal S_ .f32)) ix0 = 0 := Ideal.ofBits_zero_f32

/-- The sum over the experts and the two columns, expert by expert. -/
theorem result_sum (t d : Fin 1024) : resultR V (ix2 t d) = ∑ e : Fin 8, (
    Scalar.select (IntOp.cmpi .eq (expertsR V (ix2 t 0)) (BitVec.ofNat 32 e.val)) ((argsOf V).expert e t d * weightsR V (ix2 t 0)) 0
      + Scalar.select (IntOp.cmpi .eq (expertsR V (ix2 t 1)) (BitVec.ofNat 32 e.val)) ((argsOf V).expert e t d * weightsR V (ix2 t 1)) 0) := by
  have e0 : (res_main_v18 (F := Ideal) V : FVec Ideal S1024x1024 .f32) (ix2 t d) = (argsOf V).expert 0 t d := by
    unfold Arrays.expert Arrays.hidden argsOf; pointwise! [res_main_v18]
  have e1 : (res_main_v42 (F := Ideal) V : FVec Ideal S1024x1024 .f32) (ix2 t d) = (argsOf V).expert 1 t d := by
    unfold Arrays.expert Arrays.hidden argsOf; pointwise! [res_main_v42]
  have e2 : (res_main_v66 (F := Ideal) V : FVec Ideal S1024x1024 .f32) (ix2 t d) = (argsOf V).expert 2 t d := by
    unfold Arrays.expert Arrays.hidden argsOf; pointwise! [res_main_v66]
  have e3 : (res_main_v90 (F := Ideal) V : FVec Ideal S1024x1024 .f32) (ix2 t d) = (argsOf V).expert 3 t d := by
    unfold Arrays.expert Arrays.hidden argsOf; pointwise! [res_main_v90]
  have e4 : (res_main_v114 (F := Ideal) V : FVec Ideal S1024x1024 .f32) (ix2 t d) = (argsOf V).expert 4 t d := by
    unfold Arrays.expert Arrays.hidden argsOf; pointwise! [res_main_v114]
  have e5 : (res_main_v138 (F := Ideal) V : FVec Ideal S1024x1024 .f32) (ix2 t d) = (argsOf V).expert 5 t d := by
    unfold Arrays.expert Arrays.hidden argsOf; pointwise! [res_main_v138]
  have e6 : (res_main_v162 (F := Ideal) V : FVec Ideal S1024x1024 .f32) (ix2 t d) = (argsOf V).expert 6 t d := by
    unfold Arrays.expert Arrays.hidden argsOf; pointwise! [res_main_v162]
  have e7 : (res_main_v186 (F := Ideal) V : FVec Ideal S1024x1024 .f32) (ix2 t d) = (argsOf V).expert 7 t d := by
    unfold Arrays.expert Arrays.hidden argsOf; pointwise! [res_main_v186]
  rw [Fin.sum_univ_eight, ← e0, ← e1, ← e2, ← e3, ← e4, ← e5, ← e6, ← e7]
  clear e0 e1 e2 e3 e4 e5 e6 e7
  pointwise [resultR, res_main_v202, res_main_v106]
  simp only [zeroR]
  simp only [← add_assoc]

/-- The reference's result is the layer. -/
theorem result_at (hf : (argsOf V).Finite) (t d : Fin 1024) : resultR V (ix2 t d) = (argsOf V).moe t d := by
  rw [result_sum]
  exact Finset.sum_congr rfl fun e _ => two_columns V hf t e _

end Cert.MoE

end
-- ==== Proof.Value.lean ====
/-
# The value of the run

What each device's four windows hold of the whole arrays, and with it the result: the block of device `c` is the
block the reference's result has there.
-/
module

public import proofs.«01_k».proof.Proof.RefValue
public import proofs.«01_k».proof.Proof.Frames
public import Idealize.ShloMosaic.Lib.Pipeline.ValueKit
public import Idealize.ShloMosaic.Lib.LayoutAt
public import Idealize.ShloMosaic.Lib.ReduceAll

@[expose] public section

set_option maxRecDepth 16384

noncomputable section

namespace Cert.MoE

open Idealize.ShloMosaic Idealize.ShloMosaic.TcCoe Idealize.SL.Sem Idealize.ShloMosaic.Pipeline

section Windows

open Cert.KernelIdeal Cert.KernelIdeal.Gen

variable {F : FTy → Type} [FloatOps F] [Named F]
variable (m : (ℓ : Loc nD τ sig) → Buf (Elt F) ℓ) (ρ : Dev nD → PrngReg) (c : Dev nD)

/-- The result window is written back once and whole: the array ends at what the last point left. -/
theorem final_out : finalA m ρ c 4 = outv (blks m) c := by
  refine (dats m ρ 0 c).arrAt_eq_of_after_last 4 (pt 11) (by decide +kernel) _ fun j => ?_
  rfl

theorem blks_x (i : S512x1024.Idx) : (blks m).x c i = m ((c.tc : Thread nD τ).loc main_arg0) i := by
  refine congrArg (m ((c.tc : Thread nD τ).loc main_arg0)) (funext fun a => Fin.ext ?_)
  exact Window.rect_emb_val_of_index_zero (cfg0.win 0) t0_0 a (by revert a; decide +kernel) i

theorem blks_r (i : S1024x4.Idx) : (blks m).r c i = m ((c.tc : Thread nD τ).loc main_arg1) i := by
  refine congrArg (m ((c.tc : Thread nD τ).loc main_arg1)) (funext fun a => Fin.ext ?_)
  exact Window.rect_emb_val_of_index_zero (cfg0.win 1) t0_0 a (by revert a; decide +kernel) i

/-- At the points whose weights the body reads: which expert's block, and which half, each of the two windows holds. -/
theorem points (n : ℕ) (h : n < 8 ∨ (10 ≤ n ∧ n < 12)) :
    (cfg0.win 2).index (pt n) = (![(ex n).val, 0, (hn n).val] : Fin 3 → ℕ)
    ∧ (cfg0.win 3).index (pt n) = (![(ex n).val, (hn n).val, 0] : Fin 3 → ℕ) := by
  have : n < 12 := by omega
  interval_cases n <;> first | (exfalso; omega) | decide +kernel

theorem blks_w1 (n : ℕ) (h : n < 8 ∨ (10 ≤ n ∧ n < 12)) (k f : Fin 1024) : (blks m).w1 c n (ix3 0 k f)
    = m ((c.tc : Thread nD τ).loc main_arg2) (ix3 (ex n) k (hu (hn n) f)) := by
  refine congrArg (m ((c.tc : Thread nD τ).loc main_arg2)) (funext fun a => Fin.ext ?_)
  refine (Window.rect_emb_val (cfg0.win 2) (pt n) (ix3 0 k f) a).trans ?_
  rw [(points n h).1]
  match a with
  | ⟨0, _⟩ => show (ex n).val * 1 + 0 = (ex n).val; omega
  | ⟨1, _⟩ => show 0 * 1024 + k.val = k.val; omega
  | ⟨2, _⟩ => show (hn n).val * 1024 + f.val = 1024 * (hn n).val + f.val; omega

theorem blks_w2 (n : ℕ) (h : n < 8 ∨ (10 ≤ n ∧ n < 12)) (f d : Fin 1024) : (blks m).w2 c n (ix3 0 f d)
    = m ((c.tc : Thread nD τ).loc main_arg3) (ix3 (ex n) (hu (hn n) f) d) := by
  refine congrArg (m ((c.tc : Thread nD τ).loc main_arg3)) (funext fun a => Fin.ext ?_)
  refine (Window.rect_emb_val (cfg0.win 3) (pt n) (ix3 0 f d) a).trans ?_
  rw [(points n h).2]
  match a with
  | ⟨0, _⟩ => show (ex n).val * 1 + 0 = (ex n).val; omega
  | ⟨1, _⟩ => show (hn n).val * 1024 + f.val = 1024 * (hn n).val + f.val; omega
  | ⟨2, _⟩ => show 0 * 1024 + d.val = d.val; omega

end Windows

/-! ## The blocks of the whole arrays -/

/-- Where device `c`'s block sits on each axis: along a dimension that is cut, the last of its mesh coordinates. -/
theorem at_rows (c : Fin 8) : ((Layout.meshBlock [2, 2, 2] ![[2], []] c) 0).val = (zc c).val
    ∧ ((Layout.meshBlock [2, 2, 2] ![[2], []] c) 1).val = 0 := by revert c; decide
theorem at_cols (c : Fin 8) : ((Layout.meshBlock [2, 2, 2] ![[], [2]] c) 0).val = 0
    ∧ ((Layout.meshBlock [2, 2, 2] ![[], [2]] c) 1).val = (zc c).val := by revert c; decide
theorem at_experts (c : Fin 8) : ((Layout.meshBlock [2, 2, 2] ![[2], [], []] c) 0).val = (zc c).val
    ∧ ((Layout.meshBlock [2, 2, 2] ![[2], [], []] c) 1).val = 0
    ∧ ((Layout.meshBlock [2, 2, 2] ![[2], [], []] c) 2).val = 0 := by revert c; decide

/-- A block's element sits `j` block lengths further along. -/
theorem along {j j' s y r : ℕ} (h : j = j') (e : j' * s + y = r) : j * s + y = r := h ▸ e

variable {α : Type} (c : Fin 8)

theorem block_rows (v : Shape.Idx ⟨2, ![1024, 1024]⟩ → α) (r : Fin 512) (k : Fin 1024) :
    Layout.blockN ⟨2, ![512, 1024]⟩ ⟨2, ![1024, 1024]⟩ (Layout.meshBlock [2, 2, 2] ![[2], []] c) v (by decide) (ix2 r k)
      = v (ix2 (row (zc c) r) k) := by
  refine congrArg v (funext fun a => Fin.ext ((Layout.TilesN.idx_val _ _ _ a).trans ?_))
  match a with
  | ⟨0, _⟩ => exact along (at_rows c).1 (by show (zc c).val * 512 + r.val = 512 * (zc c).val + r.val; omega)
  | ⟨1, _⟩ => exact along (at_rows c).2 (by show 0 * 1024 + k.val = k.val; omega)

theorem block_router (v : Shape.Idx ⟨2, ![1024, 8]⟩ → α) (k : Fin 1024) (l : Fin 4) :
    Layout.blockN ⟨2, ![1024, 4]⟩ ⟨2, ![1024, 8]⟩ (Layout.meshBlock [2, 2, 2] ![[], [2]] c) v (by decide) (ix2 k l)
      = v (ix2 k (lo (zc c) l)) := by
  refine congrArg v (funext fun a => Fin.ext ((Layout.TilesN.idx_val _ _ _ a).trans ?_))
  match a with
  | ⟨0, _⟩ => exact along (at_cols c).1 (by show 0 * 1024 + k.val = k.val; omega)
  | ⟨1, _⟩ => exact along (at_cols c).2 (by show (zc c).val * 4 + l.val = 4 * (zc c).val + l.val; omega)

theorem block_w1 (v : Shape.Idx ⟨3, ![8, 1024, 2048]⟩ → α) (e : Fin 4) (k : Fin 1024) (f : Fin 2048) :
    Layout.blockN ⟨3, ![4, 1024, 2048]⟩ ⟨3, ![8, 1024, 2048]⟩ (Layout.meshBlock [2, 2, 2] ![[2], [], []] c) v (by decide) (ix3 e k f)
      = v (ix3 (lo (zc c) e) k f) := by
  refine congrArg v (funext fun a => Fin.ext ((Layout.TilesN.idx_val _ _ _ a).trans ?_))
  match a with
  | ⟨0, _⟩ => exact along (at_experts c).1 (by show (zc c).val * 4 + e.val = 4 * (zc c).val + e.val; omega)
  | ⟨1, _⟩ => exact along (at_experts c).2.1 (by show 0 * 1024 + k.val = k.val; omega)
  | ⟨2, _⟩ => exact along (at_experts c).2.2 (by show 0 * 2048 + f.val = f.val; omega)

theorem block_w2 (v : Shape.Idx ⟨3, ![8, 2048, 1024]⟩ → α) (e : Fin 4) (f : Fin 2048) (d : Fin 1024) :
    Layout.blockN ⟨3, ![4, 2048, 1024]⟩ ⟨3, ![8, 2048, 1024]⟩ (Layout.meshBlock [2, 2, 2] ![[2], [], []] c) v (by decide) (ix3 e f d)
      = v (ix3 (lo (zc c) e) f d) := by
  refine congrArg v (funext fun a => Fin.ext ((Layout.TilesN.idx_val _ _ _ a).trans ?_))
  match a with
  | ⟨0, _⟩ => exact along (at_experts c).1 (by show (zc c).val * 4 + e.val = 4 * (zc c).val + e.val; omega)
  | ⟨1, _⟩ => exact along (at_experts c).2.1 (by show 0 * 2048 + f.val = f.val; omega)
  | ⟨2, _⟩ => exact along (at_experts c).2.2 (by show 0 * 1024 + d.val = d.val; omega)

/-! ## The precondition -/

theorem exists_real {v : EReal} (h : Ideal.cmp .olt (max v (-v)) (Ideal.ofBits .f32 0x7F800000#32) = 1#1) : ∃ x : ℝ, v = x := by
  have e : Ideal.ofBits .f32 0x7F800000#32 = ⊤ := by simp [Ideal.ofBits, Ideal.ieee]
  rw [e] at h
  induction v with
  | bot => exact absurd h (by simp [Ideal.cmp])
  | coe x => exact ⟨x, rfl⟩
  | top => exact absurd h (by simp [Ideal.cmp])

/-- One device's precondition: its tokens and its slice of the router are real numbers. -/
theorem finite_of_pre [Cert.Pre_finite_KernelIdeal.Facts]
    (x : FVec Ideal Cert.Pre_finite_KernelIdeal.S512x1024 .f32) (r : FVec Ideal Cert.Pre_finite_KernelIdeal.S1024x4 .f32)
    (w1 : FVec Ideal Cert.Pre_finite_KernelIdeal.S4x1024x2048 .f32) (w2 : FVec Ideal Cert.Pre_finite_KernelIdeal.S4x2048x1024 .f32)
    (h : Cert.Pre_finite_KernelIdeal.fn (F := Ideal) x r w1 w2 = fun _ => 1#1) :
    (∀ i, ∃ y : ℝ, x i = y) ∧ ∀ i, ∃ y : ℝ, r i = y := by
  have : Subsingleton (Cert.Pre_finite_KernelIdeal.S_.Idx) := ⟨fun a b => funext fun k => k.elim0⟩
  obtain ⟨hx, hr⟩ := IntOp.andi_eq_one.1 (congrFun h fun k => k.elim0)
  exact ⟨fun i => exists_real (Host.reduce_andi_all _ _ _ _ _ hx i), fun i => exists_real (Host.reduce_andi_all _ _ _ _ _ hr i)⟩

/-! ## The claim -/

section Claim

open Cert.KernelIdeal

variable {m : (ℓ : Loc nD τ sig) → Buf (Elt Ideal) ℓ} {A : Arrays}

/-- Each device's arguments are its blocks of the whole arrays `A`. -/
structure Cut (m : (ℓ : Loc nD τ sig) → Buf (Elt Ideal) ℓ) (A : Arrays) : Prop where
  x (c : Dev nD) : m ((c.tc : Thread nD τ).loc main_arg0)
    = Layout.blockN ⟨2, ![512, 1024]⟩ ⟨2, ![1024, 1024]⟩ (Layout.meshBlock [2, 2, 2] ![[2], []] c) A.X
  r (c : Dev nD) : m ((c.tc : Thread nD τ).loc main_arg1)
    = Layout.blockN ⟨2, ![1024, 4]⟩ ⟨2, ![1024, 8]⟩ (Layout.meshBlock [2, 2, 2] ![[], [2]] c) A.R
  w1 (c : Dev nD) : m ((c.tc : Thread nD τ).loc main_arg2)
    = Layout.blockN ⟨3, ![4, 1024, 2048]⟩ ⟨3, ![8, 1024, 2048]⟩ (Layout.meshBlock [2, 2, 2] ![[2], [], []] c) A.W1
  w2 (c : Dev nD) : m ((c.tc : Thread nD τ).loc main_arg3)
    = Layout.blockN ⟨3, ![4, 2048, 1024]⟩ ⟨3, ![8, 2048, 1024]⟩ (Layout.meshBlock [2, 2, 2] ![[2], [], []] c) A.W2

theorem Cut.parts (h : Cut m A) : Parts A (blks m) where
  x c r k := (blks_x m c (ix2 r k)).trans ((congrFun (h.x c) _).trans (block_rows c A.X r k))
  r c k l := (blks_r m c (ix2 k l)).trans ((congrFun (h.r c) _).trans (block_router c A.R k l))
  w1 c n k f hn' := (blks_w1 m c n hn' k f).trans ((congrFun (h.w1 c) _).trans (block_w1 c A.W1 (ex n) k _))
  w2 c n f d hn' := (blks_w2 m c n hn' f d).trans ((congrFun (h.w2 c) _).trans (block_w2 c A.W2 (ex n) _ d))

/-- The two devices that differ in the last mesh coordinate only hold all of the tokens and all of the router. -/
theorem Cut.finite (h : Cut m A) (hx : ∀ (c : Dev nD) (i : S512x1024.Idx), ∃ y : ℝ, m ((c.tc : Thread nD τ).loc main_arg0) i = (y : EReal))
    (hr : ∀ (c : Dev nD) (i : S1024x4.Idx), ∃ y : ℝ, m ((c.tc : Thread nD τ).loc main_arg1) i = (y : EReal)) : A.Finite := by
  have dev (z : Fin 2) : ∃ c : Dev nD, zc c = z := by
    match z with
    | 0 => exact ⟨(0 : Fin 8), rfl⟩
    | 1 => exact ⟨(1 : Fin 8), rfl⟩
  refine ⟨fun i => ?_, fun i => ?_⟩
  · rw [eq_ix2 i]
    obtain ⟨c, hc⟩ := dev ⟨(i 0).val / 512, Nat.div_lt_of_lt_mul (i 0).isLt⟩
    obtain ⟨y, hy⟩ := hx c (ix2 ⟨(i 0).val % 512, Nat.mod_lt _ (by decide)⟩ (i 1))
    refine ⟨y, Eq.trans (congrArg (fun t => A.X (ix2 t (i 1))) (Fin.ext ?_)) ((block_rows c A.X _ _).symm.trans ((congrFun (h.x c) _).symm.trans hy))⟩
    rw [hc]; exact (Nat.div_add_mod _ 512).symm
  · rw [eq_ix2 i]
    obtain ⟨c, hc⟩ := dev ⟨(i 1).val / 4, Nat.div_lt_of_lt_mul (i 1).isLt⟩
    obtain ⟨y, hy⟩ := hr c (ix2 (i 0) ⟨(i 1).val % 4, Nat.mod_lt _ (by decide)⟩)
    refine ⟨y, Eq.trans (congrArg (fun t => A.R (ix2 (i 0) t)) (Fin.ext ?_)) ((block_router c A.R _ _).symm.trans ((congrFun (h.r c) _).symm.trans hy))⟩
    rw [hc]; exact (Nat.div_add_mod _ 4).symm

/-- Every device's result is its block of the mixture's rows. -/
theorem Cut.result (h : Cut m A) (hf : A.Finite) (ρ : Dev nD → PrngReg) (c : Dev nD) (v : Shape.Idx ⟨2, ![1024, 1024]⟩ → EReal)
    (hv : ∀ t d, v (ix2 t d) = A.moe t d) : finalA m ρ c 4
      = Layout.blockN ⟨2, ![512, 1024]⟩ ⟨2, ![1024, 1024]⟩ (Layout.meshBlock [2, 2, 2] ![[2], []] c) v := by
  refine (final_out m ρ c).trans (funext fun i => ?_)
  rw [eq_ix2 i]
  exact (outv_at h.parts c (i 0) (i 1) hf).trans ((hv _ _).symm.trans (block_rows c v (i 0) (i 1)).symm)

end Claim

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hcut
  have cut : Cut m (argsOf (StableHlo.launchContents m' 0)) :=
    ⟨fun c => (hcut c).1, fun c => (hcut c).2.1, fun c => (hcut c).2.2.1, fun c => (hcut c).2.2.2⟩
  have fin : (argsOf (StableHlo.launchContents m' 0)).Finite :=
    cut.finite (fun c => (finite_of_pre _ _ _ _ (hpre c)).1) fun c => (finite_of_pre _ _ _ _ (hpre c)).2
  refine ⟨resultR (StableHlo.launchContents m' 0), ?_, ?_⟩
  · exact (θ_run Cert.KernelIdeal.defs _ _).mono (fun _ h c =>
      ⟨(h.1 c 4).trans (cut.result fin g c _ fun t d => result_at _ fin t d), (h.1 c 0).trans (final_arg0 m g c),
        (h.1 c 1).trans (final_arg1 m g c), (h.1 c 2).trans (final_arg2 m g c), (h.1 c 3).trans (final_arg3 m g c)⟩) (run_main m g)
  · exact (θ_run Cert.ReferenceIdeal.defs _ _).mono (fun _ h => h 0) (Cert.ReferenceIdeal.Value.run (F := Ideal) m' g')

end Cert.MoE

end
-- ==== Proof.lean ====
/-
# The claims

The frames of the kernel as printed, of its idealisation and of the reference; the idealisation's one rewrite; and
the value: on every device the kernel's result is that device's block of the reference's.
-/
module

public import proofs.«01_k».proof.Defs
public import proofs.«01_k».proof.Proof.Bits
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  MoE.frame_p, MoE.frame_pi, MoE.frame_pi_pre, MoE.frame_ri, MoE.frame_ri_pre, MoE.preserves, MoE.algebraic⟩

end Cert.Proof

end
